-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S8x2x256x512 : Shape := ⟨4, ![8, 2, 256, 512]⟩
abbrev S2x256x512 : Shape := ⟨3, ![2, 256, 512]⟩
abbrev S7x2 : Shape := ⟨2, ![7, 2]⟩
abbrev S_ : Shape := ⟨0, ![]⟩
abbrev S256x256 : Shape := ⟨2, ![256, 256]⟩
abbrev S256x512 : Shape := ⟨2, ![256, 512]⟩
abbrev S1x1x256x512 : Shape := ⟨4, ![1, 1, 256, 512]⟩
abbrev S1x1 : Shape := ⟨2, ![1, 1]⟩
abbrev S1x256x512 : Shape := ⟨3, ![1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .f32⟩
  | .local _ .vmem, ⟨0, _⟩ => ⟨S2048x256, .f32⟩
  | .local _ .vmem, ⟨1, _⟩ => ⟨S256x2048, .f32⟩
  | .local _ .vmem, ⟨2, _⟩ => ⟨S256x2048, .f32⟩
  | .local _ .vmem, ⟨3, _⟩ => ⟨S8x2x256x512, .f32⟩
  | .local _ .vmem, ⟨4, _⟩ => ⟨S8x2x256x512, .f32⟩
  | .local _ .vmem, ⟨5, _⟩ => ⟨S2x256x512, .f32⟩
  | .local _ .vmem, ⟨6, _⟩ => ⟨S2x256x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v13 : BitVec 32 := Scalar.addi v2 c16_i32
  let v14 : BitVec 32 := Scalar.subi v13 c0_i32_10
  let c1_i32_11 : BitVec 32 := 1#32
  let v15 : BitVec 32 := Scalar.subi v14 c1_i32_11
  let c8_i32_12 : BitVec 32 := 8#32
  let v16 : BitVec 32 := Scalar.remsi v15 c8_i32_12
  let c256_i32 : BitVec 32 := 256#32
  let v17 : BitVec 32 := Scalar.muli v16 c256_i32
  let v18 : Index := Scalar.indexCast v17
  let c0 : Index := 0#32
  ![v18.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : BitVec 32 := Scalar.addi v2 c0_i32_13
  let c1_i32_14 : BitVec 32 := 1#32
  let v22 : BitVec 32 := Scalar.addi v21 c1_i32_14
  let c8_i32_15 : BitVec 32 := 8#32
  let v23 : BitVec 32 := Scalar.remsi v22 c8_i32_15
  let c256_i32_16 : BitVec 32 := 256#32
  let v24 : BitVec 32 := Scalar.muli v23 c256_i32_16
  let v25 : Index := Scalar.indexCast v24
  let c0_17 : Index := 0#32
  ![v25.toNat, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_49 : BitVec 32 := 1#32
  let v52 : BitVec 32 := Scalar.muli v7 c1_i32_49
  let v53 : BitVec 32 := Scalar.addi c0_i32_50 v52
  v53.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_63 : BitVec 32 := 1#32
  let v62 : BitVec 32 := Scalar.muli v5 c1_i32_63
  let v63 : BitVec 32 := Scalar.addi c0_i32_64 v62
  v63.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_77 : BitVec 32 := 1#32
  let v72 : BitVec 32 := Scalar.muli v7 c1_i32_77
  let v73 : BitVec 32 := Scalar.addi c0_i32_78 v72
  v73.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_91 : BitVec 32 := 1#32
  let v82 : BitVec 32 := Scalar.muli v5 c1_i32_91
  let v83 : BitVec 32 := Scalar.addi c0_i32_92 v82
  v83.toNat
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_178 : BitVec 32 := 1#32
  let v153 : BitVec 32 := Scalar.muli v7 c1_i32_178
  let v154 : BitVec 32 := Scalar.addi c0_i32_179 v153
  v154.toNat
def k0_dev8 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_230 : BitVec 32 := 1#32
  let v185 : BitVec 32 := Scalar.muli v5 c1_i32_230
  let v186 : BitVec 32 := Scalar.addi c0_i32_231 v185
  v186.toNat
def k0_dev9 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_282 : BitVec 32 := 1#32
  let v217 : BitVec 32 := Scalar.muli v7 c1_i32_282
  let v218 : BitVec 32 := Scalar.addi c0_i32_283 v217
  v218.toNat
def k0_dev10 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_334 : BitVec 32 := 1#32
  let v249 : BitVec 32 := Scalar.muli v5 c1_i32_334
  let v250 : BitVec 32 := Scalar.addi c0_i32_335 v249
  v250.toNat
def k0_dev11 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_419 : BitVec 32 := 1#32
  let v320 : BitVec 32 := Scalar.muli v7 c1_i32_419
  let v321 : BitVec 32 := Scalar.addi c0_i32_420 v320
  v321.toNat
def k0_dev12 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_471 : BitVec 32 := 1#32
  let v352 : BitVec 32 := Scalar.muli v5 c1_i32_471
  let v353 : BitVec 32 := Scalar.addi c0_i32_472 v352
  v353.toNat
def k0_dev13 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_523 : BitVec 32 := 1#32
  let v384 : BitVec 32 := Scalar.muli v7 c1_i32_523
  let v385 : BitVec 32 := Scalar.addi c0_i32_524 v384
  v385.toNat
def k0_dev14 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_575 : BitVec 32 := 1#32
  let v416 : BitVec 32 := Scalar.muli v5 c1_i32_575
  let v417 : BitVec 32 := Scalar.addi c0_i32_576 v416
  v417.toNat
def k0_dev15 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_660 : BitVec 32 := 1#32
  let v487 : BitVec 32 := Scalar.muli v7 c1_i32_660
  let v488 : BitVec 32 := Scalar.addi c0_i32_661 v487
  v488.toNat
def k0_dev16 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_712 : BitVec 32 := 1#32
  let v519 : BitVec 32 := Scalar.muli v5 c1_i32_712
  let v520 : BitVec 32 := Scalar.addi c0_i32_713 v519
  v520.toNat
def k0_dev17 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_764 : BitVec 32 := 1#32
  let v551 : BitVec 32 := Scalar.muli v7 c1_i32_764
  let v552 : BitVec 32 := Scalar.addi c0_i32_765 v551
  v552.toNat
def k0_dev18 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_816 : BitVec 32 := 1#32
  let v583 : BitVec 32 := Scalar.muli v5 c1_i32_816
  let v584 : BitVec 32 := Scalar.addi c0_i32_817 v583
  v584.toNat
def k0_dev19 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_901 : BitVec 32 := 1#32
  let v654 : BitVec 32 := Scalar.muli v7 c1_i32_901
  let v655 : BitVec 32 := Scalar.addi c0_i32_902 v654
  v655.toNat
def k0_dev20 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_953 : BitVec 32 := 1#32
  let v686 : BitVec 32 := Scalar.muli v5 c1_i32_953
  let v687 : BitVec 32 := Scalar.addi c0_i32_954 v686
  v687.toNat
def k0_dev21 (d0 : Dev nD) : Nat :=
  let c0_i32_1006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1005 : BitVec 32 := 1#32
  let v718 : BitVec 32 := Scalar.muli v7 c1_i32_1005
  let v719 : BitVec 32 := Scalar.addi c0_i32_1006 v718
  v719.toNat
def k0_dev22 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1057 : BitVec 32 := 1#32
  let v750 : BitVec 32 := Scalar.muli v5 c1_i32_1057
  let v751 : BitVec 32 := Scalar.addi c0_i32_1058 v750
  v751.toNat
def k0_dev23 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1142 : BitVec 32 := 1#32
  let v821 : BitVec 32 := Scalar.muli v7 c1_i32_1142
  let v822 : BitVec 32 := Scalar.addi c0_i32_1143 v821
  v822.toNat
def k0_dev24 (d0 : Dev nD) : Nat :=
  let c0_i32_1195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1194 : BitVec 32 := 1#32
  let v853 : BitVec 32 := Scalar.muli v5 c1_i32_1194
  let v854 : BitVec 32 := Scalar.addi c0_i32_1195 v853
  v854.toNat
def k0_dev25 (d0 : Dev nD) : Nat :=
  let c0_i32_1247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1246 : BitVec 32 := 1#32
  let v885 : BitVec 32 := Scalar.muli v7 c1_i32_1246
  let v886 : BitVec 32 := Scalar.addi c0_i32_1247 v885
  v886.toNat
def k0_dev26 (d0 : Dev nD) : Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1298 : BitVec 32 := 1#32
  let v917 : BitVec 32 := Scalar.muli v5 c1_i32_1298
  let v918 : BitVec 32 := Scalar.addi c0_i32_1299 v917
  v918.toNat
def k0_dev27 (d0 : Dev nD) : Nat :=
  let c0_i32_1384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1383 : BitVec 32 := 1#32
  let v988 : BitVec 32 := Scalar.muli v7 c1_i32_1383
  let v989 : BitVec 32 := Scalar.addi c0_i32_1384 v988
  v989.toNat
def k0_dev28 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1435 : BitVec 32 := 1#32
  let v1020 : BitVec 32 := Scalar.muli v5 c1_i32_1435
  let v1021 : BitVec 32 := Scalar.addi c0_i32_1436 v1020
  v1021.toNat
def k0_dev29 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1487 : BitVec 32 := 1#32
  let v1052 : BitVec 32 := Scalar.muli v7 c1_i32_1487
  let v1053 : BitVec 32 := Scalar.addi c0_i32_1488 v1052
  v1053.toNat
def k0_dev30 (d0 : Dev nD) : Nat :=
  let c0_i32_1540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1539 : BitVec 32 := 1#32
  let v1084 : BitVec 32 := Scalar.muli v5 c1_i32_1539
  let v1085 : BitVec 32 := Scalar.addi c0_i32_1540 v1084
  v1085.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ideal.Steps.lean ====
/-
  The kernel's body as a few steps, each stated once.

  A device runs four chains: to the right and to the left, two column blocks each. A chain adds this device's
  partial product into the tile that arrived, and sends the sum on. The printed body spells every hop of every chain
  out; here a hop is a definition over the hop's number, the chain's direction and its column block, and `body_eq`
  states that the printed body is the sequence of them, by computation.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S2048x256 .f32 := Memref.whole cc0_stg0_0
abbrev wM : Memref sig .tc .vmem S256x2048 .f32 := Memref.whole cc0_stg1_0
abbrev oM : Memref sig .tc .vmem S256x2048 .f32 := Memref.whole cc0_stg2_0

/-- The tiles of a direction (`false`: to the right, `true`: to the left): eight steps of two column blocks. -/
abbrev commM : Bool → Memref sig .tc .vmem S8x2x256x512 .f32
  | false => Memref.whole cc0_scratch0
  | true => Memref.whole cc0_scratch1
/-- This device's partial products of a direction, one per column block. -/
abbrev partM : Bool → Memref sig .tc .vmem S2x256x512 .f32
  | false => Memref.whole cc0_scratch2
  | true => Memref.whole cc0_scratch3
abbrev sendA : Bool → DmaSems sig S7x2
  | false => cc0_scratch4
  | true => cc0_scratch6
abbrev recvA : Bool → DmaSems sig S7x2
  | false => cc0_scratch5
  | true => cc0_scratch7

/-! ## The rectangles -/

theorem tile_inb (h b : ℕ) : ∀ a, (![h % 8, b % 2, 0, 0] : Fin 4 → ℕ) a + S1x1x256x512.size a ≤ S8x2x256x512.size a := by
  have h1 := Nat.mod_lt h (show 0 < 8 by decide)
  have h2 := Nat.mod_lt b (show 0 < 2 by decide)
  intro a
  match a with
  | ⟨0, _⟩ => exact h1
  | ⟨1, _⟩ => exact h2
  | ⟨2, _⟩ => exact Nat.le_refl 256
  | ⟨3, _⟩ => exact Nat.le_refl 512
theorem part_inb (b : ℕ) : ∀ a, (![b % 2, 0, 0] : Fin 3 → ℕ) a + S1x256x512.size a ≤ S2x256x512.size a := by
  have h2 := Nat.mod_lt b (show 0 < 2 by decide)
  intro a
  match a with
  | ⟨0, _⟩ => exact h2
  | ⟨1, _⟩ => exact Nat.le_refl 256
  | ⟨2, _⟩ => exact Nat.le_refl 512
theorem sem_inb (h b : ℕ) : ∀ a, (![h % 7, b % 2] : Fin 2 → ℕ) a + S1x1.size a ≤ S7x2.size a := by
  have h1 := Nat.mod_lt h (show 0 < 7 by decide)
  have h2 := Nat.mod_lt b (show 0 < 2 by decide)
  intro a
  match a with
  | ⟨0, _⟩ => exact h1
  | ⟨1, _⟩ => exact h2
/-- The first column of a column block: the right chains' blocks first, then the left ones'. -/
abbrev col (d : Bool) (b : ℕ) : ℕ := match d with
  | false => 512 * (b % 2)
  | true => 1024 + 512 * (b % 2)
theorem col_inb (d : Bool) (b : ℕ) : ∀ a, (![0, col d b] : Fin 2 → ℕ) a + S256x512.size a ≤ S256x2048.size a := by
  have h2 := Nat.mod_lt b (show 0 < 2 by decide)
  intro a
  match a with
  | ⟨0, _⟩ => exact Nat.le_refl 256
  | ⟨1, _⟩ =>
    show col d b + 512 ≤ 2048
    cases d
    · show 512 * (b % 2) + 512 ≤ 2048; omega
    · show 1024 + 512 * (b % 2) + 512 ≤ 2048; omega

/-- Tile `(h, b)` of a direction's tiles; partial product `b`; column block `b` of the right operand and of the result. -/
abbrev tileR (h b : ℕ) : Rect S8x2x256x512 := Rect.unit (s := S8x2x256x512) ![h % 8, b % 2, 0, 0] S1x1x256x512.size (tile_inb h b)
abbrev partR (b : ℕ) : Rect S2x256x512 := Rect.unit (s := S2x256x512) ![b % 2, 0, 0] S1x256x512.size (part_inb b)
abbrev semR (h b : ℕ) : Rect S7x2 := Rect.unit (s := S7x2) ![h % 7, b % 2] S1x1.size (sem_inb h b)
abbrev colR (d : Bool) (b : ℕ) : Rect S256x2048 := Rect.unit (s := S256x2048) ![0, col d b] S256x512.size (col_inb d b)

/-- The tile as a transfer's operand. -/
abbrev tileM (d : Bool) (h b : ℕ) : Memref sig .tc .vmem S256x512 .f32 :=
  ((commM d).slice (tileR h b) (fun _ => rfl)).squeeze S256x512 squeezes_S1x1x256x512_S256x512
abbrev sendS (d : Bool) (h b : ℕ) : DmaSem sig := (((sendA d).slice (semR h b)).squeeze S_ squeezes_S1x1_S_).sem
abbrev recvS (d : Bool) (h b : ℕ) : DmaSem sig := (((recvA d).slice (semR h b)).squeeze S_ squeezes_S1x1_S_).sem

/-- The rows of the left operand a direction's chain multiplies at step `h`, as the kernel computes them. -/
abbrev rowOff : Bool → Dev nD → BitVec 32 → Fin 2 → ℕ
  | false => k0_off1
  | true => k0_off2
theorem row_inb (d : Bool) (c : Dev nD) (h : Fin 8) :
    ∀ a, rowOff d c (BitVec.ofNat 32 h.val) a + S256x256.size a ≤ S2048x256.size a := by
  cases d
  · exact k0_off1_inb c h
  · exact k0_off2_inb c h
abbrev rowR (d : Bool) (c : Dev nD) (h : ℕ) : Rect S2048x256 :=
  Rect.unit (s := S2048x256) (rowOff d c (BitVec.ofNat 32 (h % 8))) S256x256.size (row_inb d c ⟨h % 8, Nat.mod_lt _ (by decide)⟩)

/-- The neighbour a direction's chain sends to, as the kernel computes it. -/
abbrev peer : Bool → Dev nD → Dev nD
  | false => fun c => ⟨k0_dev3 c, k0_dev3_lt c⟩
  | true => fun c => ⟨k0_dev4 c, k0_dev4_lt c⟩

/-! ## The values -/

/-- The first partial product, as a tile; a later one, as the scratch holds it; a tile with a partial product added; the
    result from the finished tile. -/
def firstP (x : Vec F S256x256 .f32) (w : Vec F S256x512 .f32) : Vec F S1x1x256x512 .f32 := k0_pay5 (k0_pay3 x) w
def partP (x : Vec F S256x256 .f32) (w : Vec F S256x512 .f32) : Vec F S1x256x512 .f32 := k0_pay11 (k0_pay9 x) w
def addP (a : Vec F S1x1x256x512 .f32) (p : Vec F S1x256x512 .f32) : Vec F S1x1x256x512 .f32 := k0_pay15 a p
def outP (a : Vec F S1x1x256x512 .f32) : Vec F S256x512 .f32 := k0_pay2 a

/-! ## The steps -/

abbrev P : Type → Type 1 := Prog (TpuEff nD τ sig (Elt F) Λ₀ .tc)

/-- Load the rows step `h` multiplies. -/
def rows (d : Bool) (c : Dev nD) (h : ℕ) : P (F := F) (Vec F S256x256 .f32) :=
  Prog.lift (.load xM (rowR d c h).toLoadRect (View.loadsAt_vmem h_S256x256))

/-- The product of those rows and a column block into tile `(0, b)`. -/
def first (d : Bool) (b : ℕ) (x : Vec F S256x256 .f32) : P (F := F) PUnit := do
  let w ← Prog.lift (.load wM (colR d b).toLoadRect (View.loadsAt_vmem h_S256x512))
  let _ ← Prog.lift (.load (commM d) (tileR 0 b).toLoadRect (View.loadsAt_vmem h_S1x1x256x512))
  Prog.lift (.store (commM d) (tileR 0 b) (firstP x w) Finset.univ (View.stores_vmem_bits_univ h_S1x1x256x512 rfl) (.inl rfl))

/-- The product of those rows and a column block into the partial product's scratch. -/
def part (d : Bool) (b : ℕ) (x : Vec F S256x256 .f32) : P (F := F) PUnit := do
  let w ← Prog.lift (.load wM (colR d b).toLoadRect (View.loadsAt_vmem h_S256x512))
  let _ ← Prog.lift (.load (partM d) (partR b).toLoadRect (View.loadsAt_vmem h_S1x256x512))
  Prog.lift (.store (partM d) (partR b) (partP x w) Finset.univ (View.stores_vmem_bits_univ h_S1x256x512 rfl) (.inl rfl))

/-- Send tile `(h, b)` into the neighbour's tile `(h + 1, b)`. -/
def send (d : Bool) (c : Dev nD) (h b : ℕ) : P (F := F) PUnit :=
  Prog.lift (.enqueueDma (tileM d h b) (.remote (Dev.tc (peer d c)) (tileM d (h + 1) b) (.dma (sendS d h b))) (.dma (recvS d h b))
    ((View.wordExact_bits rfl).reshape _ _) ((View.wordExact_bits rfl).reshape _ _) ⟨⟨rfl, Or.inl rfl⟩, trivial⟩)

/-- Wait for the sent tile `(h, b)` and for the arriving tile `(h + 1, b)`, and add the partial product into the latter. -/
def take (d : Bool) (h b : ℕ) : P (F := F) PUnit := do
  Prog.lift (.waitDma2 (sendS d h b) (tileM d (h + 1) b) (tileM d h b) ((View.wordExact_bits rfl).reshape _ _) ((View.wordExact_bits rfl).reshape _ _))
  Prog.lift (.waitDma2 (recvS d h b) (tileM d h b) (tileM d (h + 1) b) ((View.wordExact_bits rfl).reshape _ _) ((View.wordExact_bits rfl).reshape _ _))
  let a ← Prog.lift (.load (commM d) (tileR (h + 1) b).toLoadRect (View.loadsAt_vmem h_S1x1x256x512))
  let p ← Prog.lift (.load (partM d) (partR b).toLoadRect (View.loadsAt_vmem h_S1x256x512))
  let _ ← Prog.lift (.load (commM d) (tileR (h + 1) b).toLoadRect (View.loadsAt_vmem h_S1x1x256x512))
  Prog.lift (.store (commM d) (tileR (h + 1) b) (addP a p) Finset.univ (View.stores_vmem_bits_univ h_S1x1x256x512 rfl) (.inl rfl))

/-- The result's column block from the finished tile. -/
def finish (d : Bool) (b : ℕ) : P (F := F) PUnit := do
  let a ← Prog.lift (.load (commM d) (tileR 7 b).toLoadRect (View.loadsAt_vmem h_S1x1x256x512))
  let _ ← Prog.lift (.load oM (colR d b).toLoadRect (View.loadsAt_vmem h_S256x512))
  Prog.lift (.store oM (colR d b) (outP a) Finset.univ (View.stores_vmem_bits_univ h_S256x512 rfl) (.inl rfl))

abbrev barS : Sem sig := (SemArray.scalar (sig.barrier 0 rfl) : Sems sig S_).sem

/-- The two signals and the wait of the entry barrier. -/
def enter (c : Dev nD) : P (F := F) PUnit := do
  semSignalWord (⟨k0_dev1 c, k0_dev1_lt c⟩ : Dev nD) barS 1#32
  semSignalWord (⟨k0_dev2 c, k0_dev2_lt c⟩ : Dev nD) barS 1#32
  semWaitWord barS 2#32

/-- The first tiles. -/
def opening (c : Dev nD) : P (F := F) PUnit := do
  let x ← rows false c 0
  let y ← rows true c 0
  first false 0 x
  first true 0 y
  first false 1 x
  first true 1 y

/-- The partial products of step `h + 1`. -/
def parts (c : Dev nD) (h : ℕ) : P (F := F) PUnit := do
  let x ← rows false c (h + 1)
  let y ← rows true c (h + 1)
  part false 0 x
  part true 0 y
  part false 1 x
  part true 1 y

/-- All four chains' sends of step 0. -/
def sends (c : Dev nD) : P (F := F) PUnit := do
  send false c 0 0
  send true c 0 0
  send false c 0 1
  send true c 0 1

/-- A chain's hop: take, add, send on. -/
def relay (d : Bool) (c : Dev nD) (h b : ℕ) : P (F := F) PUnit := do
  take d h b
  send d c (h + 1) b

/-- Hop `h` of all four chains, the sums sent on. -/
def hop (c : Dev nD) (h : ℕ) : P (F := F) PUnit := do
  parts c h
  relay false c h 0
  relay true c h 0
  relay false c h 1
  relay true c h 1

/-- The last hop, nothing sent on. -/
def lastHop (c : Dev nD) : P (F := F) PUnit := do
  parts c 6
  take false 6 0
  take true 6 0
  take false 6 1
  take true 6 1

/-- The result's four column blocks. -/
def closing : P (F := F) PUnit := do
  finish false 0
  finish true 0
  finish false 1
  finish true 1

/-- The body. -/
def bodyProg : P (F := F) PUnit := do
  let c ← Prog.lift .deviceId
  enter c
  opening c
  sends c
  hop c 0
  hop c 1
  hop c 2
  hop c 3
  hop c 4
  hop c 5
  lastHop c
  closing

/-- Programs that start with the same effect and continue alike are equal. -/
theorem op_eq {α β : Type} {e e' : TpuEff nD τ sig (Elt F) Λ₀ .tc β} {k k' : β → P (F := F) α}
    (he : e = e') (hk : ∀ x, k x = k' x) : Prog.op e k = Prog.op e' k' := by
  rw [he, funext hk]

set_option maxRecDepth 100000 in
set_option maxHeartbeats 4000000 in
/-- The printed body is the sequence of steps. -/
theorem body_eq : bodyAt0 (F := F) t0_0 = bodyProg := by
  repeat refine op_eq rfl fun _ => ?_
  rfl

end Cert.KernelIdeal.Ring

end
-- ==== Proof.Ideal.Sched.lean ====
/-
  The ring's protocol: the semaphore cells, what each is paid with, and what each device owes.

  Every device runs four chains (a direction and a column block each) of seven hops. Hop `h` of a chain sends the device's
  tile `h` into tile `h + 1` of the next device in the chain's direction; the sender's cell of the hop gives the tile back
  to the sender, the receiver's cell of the hop hands over the tile with what landed. The barrier cell of a device has two
  duties, one per direction: the device its chains of the direction send to pays with its tiles 1 to 7 of that direction,
  which is the room the chains write to.
-/
module

public import proofs.«01_k».proof.Proof.Ideal.Steps
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds beside the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The ring of devices -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- The device a direction's chains send to, and the one they receive from. -/
abbrev dst : Bool → Dev nD → Dev nD
  | false => nxt
  | true => prv
abbrev src : Bool → Dev nD → Dev nD
  | false => prv
  | true => nxt

theorem src_dst (d : Bool) (c : Dev nD) : src d (dst d c) = c := by
  cases d
  · exact prv_nxt c
  · exact nxt_prv c
theorem dst_src (d : Bool) (c : Dev nD) : dst d (src d c) = c := by
  cases d
  · exact nxt_prv c
  · exact prv_nxt c
theorem src_ne (c : Dev nD) : src false c ≠ src true c := by revert c; decide

def ring (d : Bool) : Dev nD ≃ Dev nD := ⟨dst d, src d, src_dst d, dst_src d⟩

theorem peer_eq (d : Bool) (c : Dev nD) : peer d c = dst d c := by
  cases d
  · exact Fin.ext (k0_dev3_eq c)
  · exact Fin.ext (k0_dev4_eq c)
theorem dev1_eq (c : Dev nD) : (⟨k0_dev1 c, k0_dev1_lt c⟩ : Dev nD) = src false c := Fin.ext (k0_dev1_eq c)
theorem dev2_eq (c : Dev nD) : (⟨k0_dev2 c, k0_dev2_lt c⟩ : Dev nD) = src true c := Fin.ext (k0_dev2_eq c)

/-! ## What the buffers hold -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The rows step `h` multiplies, and a column block of the right operand. -/
def xrows (c : Dev nD) (d : Bool) (h : ℕ) : Vec F S256x256 .f32 := (xM.access (rowR d c h)).read (Elt F) (xstg m ρ c)
def wcols (c : Dev nD) (d : Bool) (b : ℕ) : Vec F S256x512 .f32 := (wM.access (colR d b)).read (Elt F) (wstg m ρ c)

/-- The tile a device sends at hop `h` of a chain (at `h = 7`: the finished one): its own product added to what arrived. -/
def tileVal (d : Bool) (b : ℕ) : ℕ → Dev nD → Vec F S1x1x256x512 .f32
  | 0, c => firstP (xrows m ρ c d 0) (wcols m ρ c d b)
  | h + 1, c => addP (tileVal d b h (src d c)) (partP (xrows m ρ c d (h + 1)) (wcols m ρ c d b))

/-- A tile held at a value; at any. -/
def tile (c : Dev nD) (d : Bool) (h b : ℕ) (X : Vec F S1x1x256x512 .f32) : sProp 𝕄 :=
  owns (c : Thread nD τ) ((commM d).slice (tileR h b) (fun _ => rfl)) fullShare X
def tileAny (c : Dev nD) (d : Bool) (h b : ℕ) : sProp 𝕄 := iprop(∃ X, tile (F := F) c d h b X)

omit [FloatOps F] in
instance tile_storable (c : Dev nD) (d : Bool) (h b : ℕ) (X : Vec F S1x1x256x512 .f32) :
    BI.Storable (upEmb : UEmb _ 𝕄) (tile c d h b X) := by unfold tile; infer_instance
omit [FloatOps F] in
instance tileAny_storable (c : Dev nD) (d : Bool) (h b : ℕ) : BI.Storable (upEmb : UEmb _ 𝕄) (tileAny (F := F) c d h b) := by
  unfold tileAny; infer_instance

/-! ## The cells -/

abbrev N : ℕ := (tileM false 0 0).view.dmaCredit
theorem N_pos : 0 < N := View.dmaCredit_pos _ (by decide)
theorem credit_eq (d : Bool) (h b : ℕ) : (tileM d h b).view.dmaCredit = N := by cases d <;> rfl

theorem sendS_val_fin : ∀ (d : Bool) (h : Fin 7) (b : Fin 2), (sendS d h.val b.val).val = 3 + 28 * d.toNat + (2 * h.val + b.val) := by decide
theorem recvS_val_fin : ∀ (d : Bool) (h : Fin 7) (b : Fin 2), (recvS d h.val b.val).val = 17 + 28 * d.toNat + (2 * h.val + b.val) := by decide
theorem sendS_val (d : Bool) (h b : ℕ) (hh : h < 7) (hb : b < 2) : (sendS d h b).val = 3 + 28 * d.toNat + (2 * h + b) := sendS_val_fin d ⟨h, hh⟩ ⟨b, hb⟩
theorem recvS_val (d : Bool) (h b : ℕ) (hh : h < 7) (hb : b < 2) : (recvS d h b).val = 17 + 28 * d.toNat + (2 * h + b) := recvS_val_fin d ⟨h, hh⟩ ⟨b, hb⟩

abbrev barCell (c : Dev nD) : GSem nD τ sig := ((c : Thread nD τ), .reg barS)
abbrev sendCell (c : Dev nD) (d : Bool) (h b : ℕ) : GSem nD τ sig := ((c : Thread nD τ), .dma (sendS d h b))
abbrev recvCell (c : Dev nD) (d : Bool) (h b : ℕ) : GSem nD τ sig := ((c : Thread nD τ), .dma (recvS d h b))

/-! ### A cell's role, by its number

From number 3 on the numbers run over direction, side (sender's, receiver's), hop and column block, in that order. -/

def dirOf (n : ℕ) : Bool := decide ((n - 3) / 28 = 1)
def atSender (n : ℕ) : Prop := (n - 3) / 14 % 2 = 0
instance (n : ℕ) : Decidable (atSender n) := by unfold atSender; infer_instance
def hopOf (n : ℕ) : ℕ := (n - 3) % 14 / 2
def blkOf (n : ℕ) : ℕ := (n - 3) % 2

section Decode
variable (d : Bool) (h b : ℕ) (hh : h < 7) (hb : b < 2)
include hh hb
theorem dirOf_send : dirOf (sendS d h b).val = d := by
  rw [sendS_val d h b hh hb]; unfold dirOf
  cases d
  · exact decide_eq_false (by simp only [Bool.toNat_false]; omega)
  · exact decide_eq_true (by simp only [Bool.toNat_true]; omega)
theorem dirOf_recv : dirOf (recvS d h b).val = d := by
  rw [recvS_val d h b hh hb]; unfold dirOf
  cases d
  · exact decide_eq_false (by simp only [Bool.toNat_false]; omega)
  · exact decide_eq_true (by simp only [Bool.toNat_true]; omega)
theorem atSender_send : atSender (sendS d h b).val := by
  rw [sendS_val d h b hh hb]; unfold atSender; cases d <;> simp only [Bool.toNat_true, Bool.toNat_false] <;> omega
theorem atSender_recv : ¬ atSender (recvS d h b).val := by
  rw [recvS_val d h b hh hb]; unfold atSender; cases d <;> simp only [Bool.toNat_true, Bool.toNat_false] <;> omega
theorem hopOf_send : hopOf (sendS d h b).val = h := by
  rw [sendS_val d h b hh hb]; unfold hopOf; cases d <;> simp only [Bool.toNat_true, Bool.toNat_false] <;> omega
theorem hopOf_recv : hopOf (recvS d h b).val = h := by
  rw [recvS_val d h b hh hb]; unfold hopOf; cases d <;> simp only [Bool.toNat_true, Bool.toNat_false] <;> omega
theorem blkOf_send : blkOf (sendS d h b).val = b := by
  rw [sendS_val d h b hh hb]; unfold blkOf; cases d <;> simp only [Bool.toNat_true, Bool.toNat_false] <;> omega
theorem blkOf_recv : blkOf (recvS d h b).val = b := by
  rw [recvS_val d h b hh hb]; unfold blkOf; cases d <;> simp only [Bool.toNat_true, Bool.toNat_false] <;> omega
theorem three_le_send : 3 ≤ (sendS d h b).val := by rw [sendS_val d h b hh hb]; omega
theorem three_le_recv : 3 ≤ (recvS d h b).val := by rw [recvS_val d h b hh hb]; omega
end Decode

/-! ## The schedule -/

/-- The room a direction's chains of device `c` write to: the next device's tiles from hop `h` on. -/
def room (c : Dev nD) (d : Bool) (h b : ℕ) : sProp 𝕄 := bigSep (Finset.Ico h 7) fun i => tileAny (F := F) (dst d c) d (i + 1) b
def barPay (c : Dev nD) (d : Bool) : sProp 𝕄 := iprop(room (F := F) c d 0 0 ∗ room (F := F) c d 0 1)
def dmaPay (c : Dev nD) (n : ℕ) : sProp 𝕄 :=
  if atSender n then tileAny (F := F) c (dirOf n) (hopOf n) (blkOf n)
  else tile c (dirOf n) (hopOf n + 1) (blkOf n) (tileVal m ρ (dirOf n) (blkOf n) (hopOf n) (src (dirOf n) c))

omit [FloatOps F] in
instance barPay_storable (c : Dev nD) (d : Bool) : BI.Storable (upEmb : UEmb _ 𝕄) (barPay (F := F) c d) := by
  unfold barPay room; infer_instance
instance dmaPay_storable (c : Dev nD) (n : ℕ) : BI.Storable (upEmb : UEmb _ 𝕄) (dmaPay (F := F) m ρ c n) := by
  unfold dmaPay; split <;> infer_instance

def dutiesOf : SemLoc sig → Finset Bool
  | .reg _ => Finset.univ
  | .dma q => if 3 ≤ q.val then {false} else ∅
def payOf (c : Dev nD) (d : Bool) : SemLoc sig → sProp 𝕄
  | .reg _ => barPay c d
  | .dma q => dmaPay m ρ c q.val
def amountOf : SemLoc sig → ℕ
  | .reg _ => 1
  | .dma _ => N

/-- One round: a barrier cell's two duties of one unit, a transfer cell's one duty of a tile's credit. -/
def rd : Rounds.Schedule (GSem nD τ sig) Bool 𝕄 where
  duties g r := if r = 0 ∧ g.1.2 = .tc then dutiesOf g.2 else ∅
  unitless _ := False
  amount g _ _ := amountOf g.2
  payload g _ d := payOf m ρ g.1.1 d g.2
  amount_pos g _ _ _ := by
    rcases g with ⟨t, _ | _⟩
    · first | exact Nat.one_pos | exact N_pos
    · first | exact N_pos | exact Nat.one_pos

instance payOf_storable (c : Dev nD) (d : Bool) (sm : SemLoc sig) : BI.Storable (upEmb : UEmb _ 𝕄) (payOf (F := F) m ρ c d sm) := by
  cases sm
  · exact barPay_storable c d
  · exact dmaPay_storable m ρ c _
instance rd_payload_storable (g : GSem nD τ sig) (r : ℕ) (d : Bool) :
    BI.Storable (upEmb : UEmb _ 𝕄) ((rd (F := F) m ρ).payload g r d) := payOf_storable m ρ g.1.1 d g.2

theorem duties_eq (g : GSem nD τ sig) (r : ℕ) : (rd (F := F) m ρ).duties g r = if r = 0 ∧ g.1.2 = .tc then dutiesOf g.2 else ∅ := rfl
theorem duties_bar (c : Dev nD) : (rd (F := F) m ρ).duties (barCell c) 0 = Finset.univ :=
  (duties_eq m ρ _ _).trans (if_pos ⟨rfl, rfl⟩)
theorem duties_send (c : Dev nD) (d : Bool) (h b : ℕ) (hh : h < 7) (hb : b < 2) : (rd (F := F) m ρ).duties (sendCell c d h b) 0 = {false} :=
  ((duties_eq m ρ _ _).trans (if_pos ⟨rfl, rfl⟩)).trans (if_pos (three_le_send d h b hh hb))
theorem duties_recv (c : Dev nD) (d : Bool) (h b : ℕ) (hh : h < 7) (hb : b < 2) : (rd (F := F) m ρ).duties (recvCell c d h b) 0 = {false} :=
  ((duties_eq m ρ _ _).trans (if_pos ⟨rfl, rfl⟩)).trans (if_pos (three_le_recv d h b hh hb))
theorem duties_later (g : GSem nD τ sig) : ∀ r, 1 ≤ r → (rd (F := F) m ρ).duties g r = ∅ := fun r hr =>
  (duties_eq m ρ _ _).trans (if_neg fun h => by omega)

theorem expect_bar (c : Dev nD) : (rd (F := F) m ρ).expect (barCell c) 0 = 2 := by
  unfold Schedule.expect Schedule.amountOf
  rw [duties_bar]; rfl
theorem expect_send (c : Dev nD) (d : Bool) (h b : ℕ) (hh : h < 7) (hb : b < 2) : (rd (F := F) m ρ).expect (sendCell c d h b) 0 = N := by
  unfold Schedule.expect Schedule.amountOf; rw [duties_send m ρ c d h b hh hb, Finset.sum_singleton]; rfl
theorem expect_recv (c : Dev nD) (d : Bool) (h b : ℕ) (hh : h < 7) (hb : b < 2) : (rd (F := F) m ρ).expect (recvCell c d h b) 0 = N := by
  unfold Schedule.expect Schedule.amountOf; rw [duties_recv m ρ c d h b hh hb, Finset.sum_singleton]; rfl

theorem payload_bar (c : Dev nD) (d : Bool) : (rd (F := F) m ρ).payload (barCell c) 0 d = barPay c d := rfl
theorem payload_send (c : Dev nD) (d : Bool) (h b : ℕ) (hh : h < 7) (hb : b < 2) (y : Bool) :
    (rd (F := F) m ρ).payload (sendCell c d h b) 0 y = tileAny c d h b := by
  show dmaPay m ρ c (sendS d h b).val = _
  unfold dmaPay
  rw [if_pos (atSender_send d h b hh hb), dirOf_send d h b hh hb, hopOf_send d h b hh hb, blkOf_send d h b hh hb]
theorem payload_recv (c : Dev nD) (d : Bool) (h b : ℕ) (hh : h < 7) (hb : b < 2) (y : Bool) :
    (rd (F := F) m ρ).payload (recvCell c d h b) 0 y = tile c d (h + 1) b (tileVal m ρ d b h (src d c)) := by
  show dmaPay m ρ c (recvS d h b).val = _
  unfold dmaPay
  rw [if_neg (atSender_recv d h b hh hb), dirOf_recv d h b hh hb, hopOf_recv d h b hh hb, blkOf_recv d h b hh hb]

theorem rest_bar (c : Dev nD) : bigSep ((rd (F := F) m ρ).duties (barCell c) 0 \ ∅) (fun d => (rd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (d : Bool) (h b : ℕ) (hh : h < 7) (hb : b < 2) :
    bigSep ((rd (F := F) m ρ).duties (sendCell c d h b) 0 \ ∅) (fun y => (rd (F := F) m ρ).payload (sendCell c d h b) 0 y) = tileAny c d h b := by
  rw [Finset.sdiff_empty, duties_send m ρ c d h b hh hb, bigSep_singleton, payload_send m ρ c d h b hh hb]
theorem rest_recv (c : Dev nD) (d : Bool) (h b : ℕ) (hh : h < 7) (hb : b < 2) :
    bigSep ((rd (F := F) m ρ).duties (recvCell c d h b) 0 \ ∅) (fun y => (rd (F := F) m ρ).payload (recvCell c d h b) 0 y)
      = tile c d (h + 1) b (tileVal m ρ d b h (src d c)) := by
  rw [Finset.sdiff_empty, duties_recv m ρ c d h b hh hb, bigSep_singleton, payload_recv m ρ c d h b hh hb]

/-! ## What a device owes; the levels -/

/-- A chain: its direction and its column block. -/
abbrev Chain : Type := Bool × Fin 2

/-- What device `c` owes once each chain `k` has made its first `v k` sends. -/
def owed (c : Dev nD) (v : Chain → ℕ) : CellTallies nD τ sig Unit :=
  ∑ k : Chain, ∑ i ∈ Finset.Ico (v k) 7, tallyAt (recvCell (dst k.1 c) k.1 i k.2.val) () N

/-- One more send of chain `k`. -/
abbrev bump (v : Chain → ℕ) (k : Chain) : Chain → ℕ := Function.update v k (v k + 1)

theorem owed_peel (c : Dev nD) (v : Chain → ℕ) (k : Chain) (hk : v k < 7) :
    owed c v = owed c (bump v k) + tallyAt (recvCell (dst k.1 c) k.1 (v k) k.2.val) () N := by
  have hI : Finset.Ico (v k) 7 = insert (v k) (Finset.Ico (v k + 1) 7) := by
    ext i; simp only [Finset.mem_Ico, Finset.mem_insert]; omega
  have hn : v k ∉ Finset.Ico (v k + 1) 7 := fun h => by have := (Finset.mem_Ico.mp h).1; omega
  unfold owed
  rw [← Finset.add_sum_erase _ _ (Finset.mem_univ k), ← Finset.add_sum_erase _ _ (Finset.mem_univ k), hI, Finset.sum_insert hn,
    Finset.sum_congr (s₁ := Finset.univ.erase k) (g := fun j => ∑ i ∈ Finset.Ico (v j) 7, tallyAt (recvCell (dst j.1 c) j.1 i j.2.val) () N) rfl
      (f := fun j => ∑ i ∈ Finset.Ico (bump v k j) 7, tallyAt (recvCell (dst j.1 c) j.1 i j.2.val) () N)
      (fun j hj => by rw [bump, Function.update_of_ne (Finset.ne_of_mem_erase hj)]), bump, Function.update_self, add_assoc, add_comm]

theorem owed_done (c : Dev nD) : owed c (fun _ => 7) = 0 := by
  unfold owed
  exact Finset.sum_eq_zero fun k _ => by rw [Finset.Ico_self, Finset.sum_empty]

/-- At launch: also a unit to each neighbour's barrier. -/
def O₁ (c : Dev nD) : CellTallies nD τ sig Unit := owed c (fun _ => 0) + tallyAt (barCell (src true c)) () 1
def O₀ (c : Dev nD) : CellTallies nD τ sig Unit := O₁ c + tallyAt (barCell (src false c)) () 1

def L (g : GSem nD τ sig) : Finset Unit := if g.1.2 = .tc then {()} else ∅
def lvOf : SemLoc sig → ℕ
  | .reg _ => 1
  | .dma q => if 3 ≤ q.val ∧ ¬ atSender q.val then 2 + hopOf q.val else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (d : Bool) (h b : ℕ) (hh : h < 7) (hb : b < 2) : lvOf (.dma (recvS d h b)) = 2 + h := by
  show (if 3 ≤ (recvS d h b).val ∧ ¬ atSender (recvS d h b).val then 2 + hopOf (recvS d h b).val else 0) = 2 + h
  rw [if_pos ⟨three_le_recv d h b hh hb, atSender_recv d h b hh hb⟩, hopOf_recv d h b hh hb]
theorem lv_send (d : Bool) (h b : ℕ) (hh : h < 7) (hb : b < 2) : lvOf (.dma (sendS d h b)) = 0 := by
  exact if_neg fun hc => hc.2 (atSender_send d h b hh hb)

theorem owed_pos {c : Dev nD} {v : Chain → ℕ} {g : GSem nD τ sig} {u : Unit} (h : 0 < owed c v g u) :
    ∃ k : Chain, ∃ i, v k ≤ i ∧ i < 7 ∧ g = recvCell (dst k.1 c) k.1 i k.2.val := by
  unfold owed at h
  rw [Finset.sum_apply, Finsupp.finset_sum_apply] at h
  obtain ⟨k, -, hk⟩ := Finset.exists_ne_zero_of_sum_ne_zero h.ne'
  rw [Finset.sum_apply, Finsupp.finset_sum_apply] at hk
  obtain ⟨i, hi, hki⟩ := Finset.exists_ne_zero_of_sum_ne_zero hk
  rw [tallyAt_apply] at hki
  refine ⟨k, i, (Finset.mem_Ico.mp hi).1, (Finset.mem_Ico.mp hi).2, ?_⟩
  by_contra hn
  exact hki (if_neg fun h' => hn h'.1)

/-- A device may wait on a cell of its own below everything it still owes. -/
theorem mayWait_owed (c : Dev nD) (v : Chain → ℕ) (sm : SemLoc sig) (n : ℕ) (hn : lvOf sm ≤ n) (hv : ∀ k, n < 2 + v k) :
    (levAts L lv : sProp 𝕄) ⊢ MayWait (c : Thread nD τ) sm () (owed c v) :=
  MayOwe.of_cut (L := L) (lev := lv) n (fun p hp => by rw [Finset.mem_singleton.mp hp, L_tc]; exact Finset.mem_singleton_self _)
    (fun g u hg => by
      obtain ⟨k, i, -, -, rfl⟩ := owed_pos hg
      exact Finset.mem_singleton_self _)
    (fun p hp => by rw [Finset.mem_singleton.mp hp]; exact hn)
    (fun g u hg => by
      obtain ⟨k, i, hi, hi7, rfl⟩ := owed_pos hg
      have := hv k
      show n < lvOf (.dma (recvS k.1 i k.2.val))
      rw [lv_recv k.1 i k.2.val hi7 k.2.isLt]
      omega)

theorem O₀_pos {c : Dev nD} {g : GSem nD τ sig} {u : Unit} (h : 0 < O₀ c g u) :
    g.1.2 = .tc ∧ 0 < lvOf g.2 := by
  unfold O₀ O₁ at h
  rw [Pi.add_apply, Finsupp.add_apply, Pi.add_apply, Finsupp.add_apply, tallyAt_apply, tallyAt_apply] at h
  by_cases h1 : g = barCell (src true c)
  · subst h1; exact ⟨rfl, Nat.one_pos⟩
  by_cases h2 : g = barCell (src false c)
  · subst h2; exact ⟨rfl, Nat.one_pos⟩
  rw [if_neg (fun h' => h1 h'.1), if_neg (fun h' => h2 h'.1), add_zero, add_zero] at h
  obtain ⟨k, i, hi, hi7, rfl⟩ := owed_pos h
  refine ⟨rfl, ?_⟩
  show 0 < lvOf (.dma (recvS k.1 i k.2.val))
  rw [lv_recv k.1 i k.2.val hi7 k.2.isLt]
  omega

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => (O₀_pos hg).2)
    · unfold L; rw [if_pos (O₀_pos hg).1]; exact Finset.mem_singleton_self _
    · rw [Finset.mem_singleton.mp hp]
      exact (if_neg fun h => by omega : lvOf (.dma q) = 0).le
  · rw [MayWait_zero]; iintro -; iempintro

end Cert.KernelIdeal.Ring

end
-- ==== Proof.Ideal.Chain.lean ====
/-
  One chain's steps: a load or a store in a part of a buffer, the send of a tile, the wait for one, and the products.

  Each is stated for any device, direction, column block and hop. Between its steps a chain is `ready` to send its tile of
  a hop, or has it `flying`; what it still needs for later hops and what it got back from earlier ones are runs over the
  hops' numbers.
-/
module

public import proofs.«01_k».proof.Proof.Ideal.Sched
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` runs to `Q`. -/
abbrev Runs (c : Dev nD) {α : Type} (p : P (F := F) α) (Q : α → sProp 𝕄) : sProp 𝕄 :=
  wp frame (wpE (defs₀ (F := F)) 𝒱₀ (c : Thread nD τ) none) Set.univ p Q

theorem ret_runs (c : Dev nD) {α : Type} (a : α) {Q : α → sProp 𝕄} : Q a ⊢ Runs (F := F) c (.ret a) Q := by
  unfold Runs
  rw [wp_ret]; iintro H; imodintro; iexact H

/-! ## Loads and stores in a part of a buffer -/

section Parts
variable {α : Type} (c : Dev nD) {s : Shape} {e : EltTy} (M : Memref sig .tc .vmem s e) (r : Rect s) (hr : ∀ a, r.stride a = 1)

theorem load_part {hl : M.view.LoadsAt r.toLoadRect} {k : (r.shape.Idx → Elt F e) → P (F := F) α} {X : r.shape.Idx → Elt F e} {Q : α → sProp 𝕄} :
    (owns (c : Thread nD τ) (M.slice r hr) fullShare X : sProp 𝕄)
      ⊢ iprop((owns (c : Thread nD τ) (M.slice r hr) fullShare X -∗ Runs c (k X) Q) -∗ Runs c (.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr
  · ipureintro; exact hf
  · iexact H

theorem store_part {w : r.shape.Idx → Elt F e} {hx : (M.access r).Stores Finset.univ}
    {hm : (Finset.univ : Finset r.shape.Idx) = Finset.univ ∨ ∀ a, r.stride a = 1}
    {k : PUnit → P (F := F) α} {X : r.shape.Idx → Elt F e} {Q : α → sProp 𝕄} :
    (owns (c : Thread nD τ) (M.slice r hr) fullShare X : sProp 𝕄)
      ⊢ iprop((owns (c : Thread nD τ) (M.slice r hr) fullShare w -∗ Runs c (k ⟨⟩) Q)
          -∗ Runs c (.op (.store M r w Finset.univ hx hm) k) Q) := by
  unfold owns
  iintro ⟨%f, %hf, H⟩ Hk
  iapply (wp_store 𝒱₀ (c : Thread nD τ) none Set.univ (m := M) (r := r) (Mk := Finset.univ) (S := (M.access r).set) (f := f) (by rw [View.setOn_univ])) $$ H
  iintro H
  iapply Hk
  iexists ((M.access r).write (Elt F) f w Finset.univ)
  isplitr
  · ipureintro; exact View.read_write_univ (v := M.access r) f w
  · iexact H

end Parts

/-! ## The operands -/

def xHeld (c : Dev nD) : sProp 𝕄 := iprop((c : Thread nD τ).loc cc0_stg0_0 ↦{fullShare} xstg m ρ c)
def wHeld (c : Dev nD) : sProp 𝕄 := iprop((c : Thread nD τ).loc cc0_stg1_0 ↦{fullShare} wstg m ρ c)

theorem rows_runs (c : Dev nD) (d : Bool) (h : ℕ) {Q : Vec F S256x256 .f32 → sProp 𝕄} :
    xHeld m ρ c ⊢ iprop((xHeld m ρ c -∗ Q (xrows m ρ c d h)) -∗ Runs c (rows d c h) Q) := by
  unfold xHeld rows xrows
  iintro H Hk
  simp only [Prog.lift]
  iapply (wp_load_rect 𝒱₀ (c : Thread nD τ) none Set.univ (m := xM) (r := rowR d c h) (Finset.subset_univ _)) $$ H
  iintro H
  iapply ret_runs
  iapply Hk; iexact H

theorem cols_load (c : Dev nD) (d : Bool) (b : ℕ) {α : Type} {hl : wM.view.LoadsAt (colR d b).toLoadRect}
    {k : Vec F S256x512 .f32 → P (F := F) α} {Q : α → sProp 𝕄} :
    wHeld m ρ c ⊢ iprop((wHeld m ρ c -∗ Runs c (k (wcols m ρ c d b)) Q) -∗ Runs c (.op (.load wM (colR d b).toLoadRect hl) k) Q) := by
  unfold wHeld
  exact wp_load_rect 𝒱₀ (c : Thread nD τ) none Set.univ (m := wM) (r := colR d b) (Finset.subset_univ _)

/-- A partial product's slot, held at a value; at any. -/
def pslot (c : Dev nD) (d : Bool) (b : ℕ) (X : Vec F S1x256x512 .f32) : sProp 𝕄 :=
  owns (c : Thread nD τ) ((partM d).slice (partR b) (fun _ => rfl)) fullShare X
def pslotAny (c : Dev nD) (d : Bool) (b : ℕ) : sProp 𝕄 := iprop(∃ X, pslot (F := F) c d b X)
/-- A column block of the result, held at a value; at any. -/
def oslot (c : Dev nD) (d : Bool) (b : ℕ) (X : Vec F S256x512 .f32) : sProp 𝕄 :=
  owns (c : Thread nD τ) (oM.slice (colR d b) (fun _ => rfl)) fullShare X
def oslotAny (c : Dev nD) (d : Bool) (b : ℕ) : sProp 𝕄 := iprop(∃ X, oslot (F := F) c d b X)

theorem first_runs (c : Dev nD) (d : Bool) (b : ℕ) (x : Vec F S256x256 .f32) {Q : PUnit → sProp 𝕄} :
    iprop(wHeld m ρ c ∗ tileAny c d 0 b)
      ⊢ iprop((wHeld m ρ c ∗ tile c d 0 b (firstP x (wcols m ρ c d b)) -∗ Q ⟨⟩) -∗ Runs c (first d b x) Q) := by
  unfold first tileAny tile
  iintro ⟨Hw, ⟨%X, Ht⟩⟩ Hk
  simp only [Prog.lift, Prog.bind_op, Prog.bind_ret]
  iapply (cols_load m ρ c d b) $$ Hw; iintro Hw
  iapply (load_part c (commM d) (tileR 0 b) (fun _ => rfl)) $$ Ht; iintro Ht
  iapply (store_part c (commM d) (tileR 0 b) (fun _ => rfl)) $$ Ht; iintro Ht
  iapply ret_runs
  iapply Hk
  isplitl [Hw] <;> iassumption

theorem part_runs (c : Dev nD) (d : Bool) (b : ℕ) (x : Vec F S256x256 .f32) {Q : PUnit → sProp 𝕄} :
    iprop(wHeld m ρ c ∗ pslotAny c d b)
      ⊢ iprop((wHeld m ρ c ∗ pslot c d b (partP x (wcols m ρ c d b)) -∗ Q ⟨⟩) -∗ Runs c (part d b x) Q) := by
  unfold part pslotAny pslot
  iintro ⟨Hw, ⟨%X, Ht⟩⟩ Hk
  simp only [Prog.lift, Prog.bind_op, Prog.bind_ret]
  iapply (cols_load m ρ c d b) $$ Hw; iintro Hw
  iapply (load_part c (partM d) (partR b) (fun _ => rfl)) $$ Ht; iintro Ht
  iapply (store_part c (partM d) (partR b) (fun _ => rfl)) $$ Ht; iintro Ht
  iapply ret_runs
  iapply Hk
  isplitl [Hw] <;> iassumption

theorem finish_runs (c : Dev nD) (d : Bool) (b : ℕ) (A : Vec F S1x1x256x512 .f32) {Q : PUnit → sProp 𝕄} :
    iprop(tile c d 7 b A ∗ oslotAny c d b)
      ⊢ iprop((tile c d 7 b A ∗ oslot c d b (outP A) -∗ Q ⟨⟩) -∗ Runs c (finish d b) Q) := by
  unfold finish oslotAny oslot tile
  iintro ⟨Ha, ⟨%X, Ht⟩⟩ Hk
  simp only [Prog.lift, Prog.bind_op, Prog.bind_ret]
  iapply (load_part c (commM d) (tileR 7 b) (fun _ => rfl)) $$ Ha; iintro Ha
  iapply (load_part c oM (colR d b) (fun _ => rfl)) $$ Ht; iintro Ht
  iapply (store_part c oM (colR d b) (fun _ => rfl)) $$ Ht; iintro Ht
  iapply ret_runs
  iapply Hk
  isplitl [Ha] <;> iassumption

/-! ## The transfer of a tile -/

/-- What a re-indexed view reads, written through another view re-indexed alike, reads there as it did. -/
theorem landed {sp sp' : Space} {s s' : Shape} {e : EltTy} (v : View sig .tc sp s e) (v' : View sig .tc sp' s e) (hn : s'.numel = s.numel)
    (f : v.ty.Contents (Elt F)) (g : v'.ty.Contents (Elt F)) :
    v'.read (Elt F) ((v'.reshape s' hn).write (Elt F) g ((v.reshape s' hn).read (Elt F) f) Finset.univ) = v.read (Elt F) f := by
  rw [View.write_reshape_univ, View.read_write_univ]
  funext x
  show v.read (Elt F) f (Shape.reshapeEquiv hn ((Shape.reshapeEquiv hn).symm x)) = _
  rw [Equiv.apply_symm_apply]

/-- The tile held through the transfer's view. -/
theorem tile_eq (c : Dev nD) (d : Bool) (h b : ℕ) (X : Vec F S1x1x256x512 .f32) :
    (tile c d h b X : sProp 𝕄) = iprop(∃ f, ⌜((commM d).slice (tileR h b) (fun _ => rfl)).view.read (Elt F) f = X⌝
      ∗ ((tileM d h b).view.loc (c : Thread nD τ) ↦[(tileM d h b).view.set]{fullShare} f)) := by
  have hs : (tileM d h b).view.set = ((commM d).slice (tileR h b) (fun _ => rfl)).view.set :=
    View.set_reshape (v := ((commM d).slice (tileR h b) (fun _ => rfl)).view) _
  rw [hs]; rfl

/-- A send, to a device given. -/
def sendTo (d : Bool) (n : Dev nD) (h b : ℕ) : P (F := F) PUnit :=
  Prog.lift (.enqueueDma (tileM d h b) (.remote (Dev.tc n) (tileM d (h + 1) b) (.dma (sendS d h b))) (.dma (recvS d h b))
    ((View.wordExact_bits rfl).reshape _ _) ((View.wordExact_bits rfl).reshape _ _) ⟨⟨rfl, Or.inl rfl⟩, trivial⟩)
theorem send_eq (d : Bool) (c : Dev nD) (h b : ℕ) : (send d c h b : P (F := F) PUnit) = sendTo d (dst d c) h b := by
  rw [← peer_eq]; rfl

/-- What a device owes, whatever it has waited on. -/
def owing (c : Dev nD) (O : CellTallies nD τ sig Unit) : sProp 𝕄 := iprop(∃ W, owes (c : Thread nD τ) O W)

/-- The invariant of a cell, and that its round 0 was reached. -/
def cellAt (κ : ℕ) (g : GSem nD τ sig) : sProp 𝕄 := iprop(cellInv ER (rd m ρ) κ g ∗ reached ER g 0)
instance cellAt_persistent (κ : ℕ) (g : GSem nD τ sig) : BI.Persistent (cellAt m ρ κ g) := by unfold cellAt; infer_instance

theorem send_runs (c : Dev nD) (k : Chain) (h : ℕ) (hh : h < 7) (κ₁ κ₂ : ℕ) (v : Chain → ℕ) (hv : v k = h) (X : Vec F S1x1x256x512 .f32)
    (hX : X = tileVal m ρ k.1 k.2.val h c) {Q : PUnit → sProp 𝕄} :
    iprop(cellAt m ρ κ₁ (sendCell c k.1 h k.2.val) ∗ cellAt m ρ κ₂ (recvCell (dst k.1 c) k.1 h k.2.val)
        ∗ tile c k.1 h k.2.val X ∗ tileAny (dst k.1 c) k.1 (h + 1) k.2.val ∗ owing c (owed c v)
        ∗ dutyTok ER (sendCell c k.1 h k.2.val) 0 false ∗ dutyTok ER (recvCell (dst k.1 c) k.1 h k.2.val) 0 false)
      ⊢ iprop((cred (tallyAt (sendCell c k.1 h k.2.val) () N) ∗ owing c (owed c (bump v k)) -∗ Q ⟨⟩)
          -∗ Runs c (send k.1 c h k.2.val) Q) := by
  obtain ⟨d, b⟩ := k
  rw [send_eq]
  unfold sendTo cellAt owing tileAny
  simp only [tile_eq]
  iintro ⟨⟨#HI1, #HR1⟩, ⟨#HI2, #HR2⟩, ⟨%f, %hf, Hs⟩, ⟨%Y, %g, %hg, Hd⟩, ⟨%W, HO⟩, Ht1, Ht2⟩ Hk
  simp only [Prog.lift]
  have hp₁ : ((tileM d h b.val).view.loc (c : Thread nD τ) ↦[(tileM d h b.val).view.set]{fullShare} f : sProp 𝕄)
      ⊢ (rd m ρ).payload (sendCell c d h b.val) 0 false := by
    rw [payload_send m ρ c d h b.val hh b.isLt]
    unfold tileAny; simp only [tile_eq]
    iintro H; iexists X; iexists f; isplitr
    · ipureintro; exact hf
    · iexact H
  have hp₂ : ((tileM d (h + 1) b.val).view.loc (dst d c : Thread nD τ) ↦[(tileM d (h + 1) b.val).view.set]{fullShare}
        ((tileM d (h + 1) b.val).view.write (Elt F) g ((tileM d h b.val).view.read (Elt F) f) Finset.univ) : sProp 𝕄)
      ⊢ (rd m ρ).payload (recvCell (dst d c) d h b.val) 0 false := by
    rw [payload_recv m ρ (dst d c) d h b.val hh b.isLt, src_dst, tile_eq]
    iintro H; iexists _; isplitr
    rotate_left
    · iexact H
    · ipureintro
      exact (landed ((commM d).view.slice (tileR h b.val)) ((commM d).view.slice (tileR (h + 1) b.val)) _ f g).trans (hf.trans hX)
  have hO : owed c v = owed c (bump v (d, b)) + tallyAt (recvCell (dst d c) d h b.val) () N := by
    have := owed_peel c v (d, b) (by omega)
    rw [hv] at this; exact this
  iapply (Rounds.wp_send_pointsTo 𝒱₀ ER (rd m ρ) (c : Thread nD τ) none (κ₁ := κ₁) (κ₂ := κ₂) (r₁ := 0) (r₂ := 0) (d₁ := false) (d₂ := false)
      (by rw [duties_send m ρ c d h b.val hh b.isLt]; exact Finset.mem_singleton_self _)
      (by rw [duties_recv m ρ (dst d c) d h b.val hh b.isLt]; exact Finset.mem_singleton_self _)
      () () N
      (show (tileM d (h + 1) b.val).view.amount (SemLoc.dma (recvS d h b.val)) = N from credit_eq d (h + 1) b.val) rfl rfl (owed c (bump v (d, b))) hO (W := W) hp₁ hp₂) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply ret_runs
  iapply Hk
  isplitl [Hc]; · iexact Hc
  iexists W; iexact HO

/-- A wait on a cell of the device's own, to the end of its round: the round's payloads. -/
theorem wait_runs (c : Dev nD) (sm : SemLoc sig) (κ n : ℕ) (hn : (rd (F := F) m ρ).expect ((c : Thread nD τ), sm) 0 = n) (v : Chain → ℕ)
    (lev : ℕ) (hl : lvOf sm ≤ lev) (hv : ∀ k, lev < 2 + v k) {α : Type} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm n K)
    {k : PUnit → P (F := F) α} {Q : α → sProp 𝕄} :
    iprop(cellAt m ρ κ ((c : Thread nD τ), sm) ∗ levAts L lv ∗ cred (tallyAt ((c : Thread nD τ), sm) () n) ∗ owing c (owed c v)
        ∗ atPos ER ((c : Thread nD τ), sm) 0 ∅ 0)
      ⊢ iprop((owing c (owed c v) ∗ atPos ER ((c : Thread nD τ), sm) 1 ∅ 0
            ∗ bigSep ((rd m ρ).duties ((c : Thread nD τ), sm) 0 \ ∅) (fun d => (rd m ρ).payload ((c : Thread nD τ), sm) 0 d) -∗ Runs c (k ⟨⟩) Q)
          -∗ Runs c (.op w k) Q) := by
  unfold cellAt owing
  iintro ⟨⟨#HI, #HR⟩, #HL, Hc, ⟨%W, HO⟩, Hat⟩ Hk
  iapply (Rounds.wp_wait_rest_token 𝒱₀ ER (rd m ρ) (c : Thread nD τ) none (κ := κ) (sm := sm) (k' := n)
      hw (Set.mem_univ _) () (O := owed c v) (W := W) (R := 0) (m := 0) (T := ∅)
      (by rw [Nat.zero_add, hn])) $$ [Hc HO Hat]
  · isplitr; · iexact HI
    isplitl [Hc]; · iexact Hc
    isplitl [HO]; · iexact HO
    isplitr; · iapply (mayWait_owed c v sm lev hl hv); iexact HL
    iexact Hat
  iintro ⟨HO, Hat, -, Hpay⟩
  iapply Hk
  isplitl [HO]; · iexists _; iexact HO
  isplitl [Hat]; · iexact Hat
  iexact Hpay

theorem take_runs (c : Dev nD) (d : Bool) (h b : ℕ) (hh : h < 7) (hb : b < 2) (κ₁ κ₂ : ℕ) (v : Chain → ℕ) (hv : ∀ k, h + 1 ≤ v k)
    (p : Vec F S1x256x512 .f32) {Q : PUnit → sProp 𝕄} :
    iprop(cellAt m ρ κ₁ (sendCell c d h b) ∗ cellAt m ρ κ₂ (recvCell c d h b) ∗ levAts L lv
        ∗ cred (tallyAt (sendCell c d h b) () N) ∗ cred (tallyAt (recvCell c d h b) () N) ∗ owing c (owed c v)
        ∗ atPos ER (sendCell c d h b) 0 ∅ 0 ∗ atPos ER (recvCell c d h b) 0 ∅ 0 ∗ pslot c d b p)
      ⊢ iprop((owing c (owed c v) ∗ atPos ER (sendCell c d h b) 1 ∅ 0 ∗ atPos ER (recvCell c d h b) 1 ∅ 0 ∗ tileAny c d h b
            ∗ tile c d (h + 1) b (addP (tileVal m ρ d b h (src d c)) p) ∗ pslotAny c d b -∗ Q ⟨⟩)
          -∗ Runs c (take d h b) Q) := by
  unfold take
  iintro ⟨#H1, #H2, #HL, Hc1, Hc2, HO, Ha1, Ha2, Hp⟩ Hk
  simp only [Prog.lift, Prog.bind_op, Prog.bind_ret]
  iapply (wait_runs m ρ c (.dma (sendS d h b)) κ₁ N (expect_send m ρ c d h b hh hb) v 0 (lv_send d h b hh hb).le (fun k => by omega)
    (fun K => (wpE_waitDma2_eq (defs := defs₀ (F := F)) 𝒱₀ (c : Thread nD τ) none Set.univ (dst := tileM d h b) K).trans (by rw [credit_eq]))) $$ [Hc1 HO Ha1]
  · isplitr; · iexact H1
    isplitr; · iexact HL
    isplitl [Hc1]; · iexact Hc1
    isplitl [HO] <;> iassumption
  iintro ⟨HO, Ha1, Hpay⟩
  ihave Hs := (Entails.of_eq (rest_send m ρ c d h b hh hb)) $$ Hpay
  iapply (wait_runs m ρ c (.dma (recvS d h b)) κ₂ N (expect_recv m ρ c d h b hh hb) v (2 + h) (lv_recv d h b hh hb).le
    (fun k => by have := hv k; omega)
    (fun K => (wpE_waitDma2_eq (defs := defs₀ (F := F)) 𝒱₀ (c : Thread nD τ) none Set.univ (dst := tileM d (h + 1) b) K).trans (by rw [credit_eq]))) $$ [Hc2 HO Ha2]
  · isplitr; · iexact H2
    isplitr; · iexact HL
    isplitl [Hc2]; · iexact Hc2
    isplitl [HO] <;> iassumption
  iintro ⟨HO, Ha2, Hpay⟩
  ihave Ht := (Entails.of_eq (rest_recv m ρ c d h b hh hb)) $$ Hpay
  unfold tile pslot
  iapply (load_part c (commM d) (tileR (h + 1) b) (fun _ => rfl)) $$ Ht; iintro Ht
  iapply (load_part c (partM d) (partR b) (fun _ => rfl)) $$ Hp; iintro Hp
  iapply (load_part c (commM d) (tileR (h + 1) b) (fun _ => rfl)) $$ Ht; iintro Ht
  iapply (store_part c (commM d) (tileR (h + 1) b) (fun _ => rfl)) $$ Ht; iintro Ht
  iapply ret_runs
  iapply Hk
  isplitl [HO]; · iexact HO
  isplitl [Ha1]; · iexact Ha1
  isplitl [Ha2]; · iexact Ha2
  isplitl [Hs]; · iexact Hs
  isplitl [Ht]; · iexact Ht
  unfold pslotAny pslot
  iexists p; iexact Hp

/-! ## A chain between its steps -/

/-- For the hops from `h` on: the tokens of what the chain still pays; what it still receives with. -/
def toks (c : Dev nD) (k : Chain) (h : ℕ) : sProp 𝕄 := bigSep (Finset.Ico h 7) fun i =>
  iprop(dutyTok ER (sendCell c k.1 i k.2.val) 0 false ∗ dutyTok ER (recvCell (dst k.1 c) k.1 i k.2.val) 0 false)
def recvs (c : Dev nD) (k : Chain) (h : ℕ) : sProp 𝕄 := bigSep (Finset.Ico h 7) fun i =>
  iprop(atPos ER (sendCell c k.1 i k.2.val) 0 ∅ 0 ∗ atPos ER (recvCell c k.1 i k.2.val) 0 ∅ 0 ∗ cred (tallyAt (recvCell c k.1 i k.2.val) () N))
/-- For the hops below `h`: both cells past their round, and the tile back. -/
def past (c : Dev nD) (k : Chain) (h : ℕ) : sProp 𝕄 := bigSep (Finset.range h) fun i =>
  iprop(atPos ER (sendCell c k.1 i k.2.val) 1 ∅ 0 ∗ atPos ER (recvCell c k.1 i k.2.val) 1 ∅ 0 ∗ tileAny (F := F) c k.1 i k.2.val)

/-- About to send hop `h`'s tile; its tile sent. -/
def ready (c : Dev nD) (k : Chain) (h : ℕ) : sProp 𝕄 :=
  iprop(tile c k.1 h k.2.val (tileVal m ρ k.1 k.2.val h c) ∗ toks c k h ∗ room c k.1 h k.2.val ∗ recvs c k h ∗ past c k h)
def flying (c : Dev nD) (k : Chain) (h : ℕ) : sProp 𝕄 :=
  iprop(cred (tallyAt (sendCell c k.1 h k.2.val) () N) ∗ toks c k (h + 1) ∗ room c k.1 (h + 1) k.2.val ∗ recvs c k h ∗ past (F := F) c k h)

/-! ## The cells by name -/

/-- A device's cells: the barrier's, and each chain's and hop's sender's (`false`) and receiver's (`true`). -/
abbrev Key : Type := Unit ⊕ (Chain × Fin 7 × Bool)
def csem : Key → SemLoc sig
  | .inl _ => .reg barS
  | .inr (k, h, false) => .dma (sendS k.1 h.val k.2.val)
  | .inr (k, h, true) => .dma (recvS k.1 h.val k.2.val)
abbrev kcell (ck : Dev nD × Key) : GSem nD τ sig := ((ck.1 : Thread nD τ), csem ck.2)

/-- Every cell's invariant and record, and the levels. -/
def known (K : Dev nD × Key → ℕ) : sProp 𝕄 :=
  iprop((bigSep Finset.univ fun ck : Dev nD × Key => cellAt m ρ (K ck) (kcell ck)) ∗ levAts L lv)
instance known_persistent (K : Dev nD × Key → ℕ) : BI.Persistent (known m ρ K) := by unfold known; infer_instance

theorem cells_elim (K : Dev nD × Key → ℕ) (ck : Dev nD × Key) :
    (bigSep Finset.univ fun ck : Dev nD × Key => cellAt m ρ (K ck) (kcell ck)) ⊢ cellAt m ρ (K ck) (kcell ck) :=
  bigSep_elim (Finset.mem_univ ck)
theorem known_cell (K : Dev nD × Key → ℕ) (ck : Dev nD × Key) : known m ρ K ⊢ cellAt m ρ (K ck) (kcell ck) := by
  unfold known
  iintro ⟨H, -⟩
  iapply (cells_elim m ρ K ck); iexact H
theorem known_send (K : Dev nD × Key → ℕ) (c : Dev nD) (k : Chain) (h : ℕ) (hh : h < 7) :
    known m ρ K ⊢ cellAt m ρ (K (c, .inr (k, ⟨h, hh⟩, false))) (sendCell c k.1 h k.2.val) := known_cell m ρ K (c, .inr (k, ⟨h, hh⟩, false))
theorem known_recv (K : Dev nD × Key → ℕ) (c : Dev nD) (k : Chain) (h : ℕ) (hh : h < 7) :
    known m ρ K ⊢ cellAt m ρ (K (c, .inr (k, ⟨h, hh⟩, true))) (recvCell c k.1 h k.2.val) := known_cell m ρ K (c, .inr (k, ⟨h, hh⟩, true))
theorem known_bar (K : Dev nD × Key → ℕ) (c : Dev nD) : known m ρ K ⊢ cellAt m ρ (K (c, .inl ())) (barCell c) := known_cell m ρ K (c, .inl ())
theorem known_levels (K : Dev nD × Key → ℕ) : known m ρ K ⊢ levAts L lv := by
  unfold known
  iintro ⟨-, H⟩; iexact H

/-! ## A chain's hop -/

theorem ready_send (K : Dev nD × Key → ℕ) (c : Dev nD) (k : Chain) (h : ℕ) (hh : h < 7) (v : Chain → ℕ) (hv : v k = h) {Q : PUnit → sProp 𝕄} :
    iprop(known m ρ K ∗ ready m ρ c k h ∗ owing c (owed c v))
      ⊢ iprop((flying c k h ∗ owing c (owed c (bump v k)) -∗ Q ⟨⟩) -∗ Runs c (send k.1 c h k.2.val) Q) := by
  unfold ready toks room
  rw [bigSep_Ico_succ_bot hh, bigSep_Ico_succ_bot hh]
  iintro ⟨#HK, ⟨Ht, ⟨⟨Hd1, Hd2⟩, Htoks⟩, ⟨Hr, Hroom⟩, Hrecvs, Hpast⟩, HO⟩ Hk
  iapply (send_runs m ρ c k h hh (K (c, .inr (k, ⟨h, hh⟩, false))) (K (dst k.1 c, .inr (k, ⟨h, hh⟩, true))) v hv _ rfl) $$ [Ht Hd1 Hd2 Hr HO]
  · isplitr; · iapply (known_send m ρ K c k h hh); iexact HK
    isplitr; · iapply (known_recv m ρ K (dst k.1 c) k h hh); iexact HK
    isplitl [Ht]; · iexact Ht
    isplitl [Hr]; · iexact Hr
    isplitl [HO]; · iexact HO
    isplitl [Hd1] <;> iassumption
  iintro ⟨Hc, HO⟩
  iapply Hk
  unfold flying toks room
  isplitr [HO]
  · isplitl [Hc]; · iexact Hc
    isplitl [Htoks]; · iexact Htoks
    isplitl [Hroom]; · iexact Hroom
    isplitl [Hrecvs] <;> iassumption
  · iexact HO

/-- The partial product a chain adds at hop `h`. -/
def prodAt (c : Dev nD) (k : Chain) (h : ℕ) : Vec F S1x256x512 .f32 := partP (xrows m ρ c k.1 h) (wcols m ρ c k.1 k.2.val)

theorem flying_take (K : Dev nD × Key → ℕ) (c : Dev nD) (k : Chain) (h : ℕ) (hh : h < 7) (v : Chain → ℕ) (hv : ∀ k, h + 1 ≤ v k) {Q : PUnit → sProp 𝕄} :
    iprop(known m ρ K ∗ flying c k h ∗ pslot c k.1 k.2.val (prodAt m ρ c k (h + 1)) ∗ owing c (owed c v))
      ⊢ iprop((ready m ρ c k (h + 1) ∗ pslotAny c k.1 k.2.val ∗ owing c (owed c v) -∗ Q ⟨⟩) -∗ Runs c (take k.1 h k.2.val) Q) := by
  unfold flying recvs
  rw [bigSep_Ico_succ_bot hh]
  iintro ⟨#HK, ⟨Hc1, Htoks, Hroom, ⟨⟨Ha1, Ha2, Hc2⟩, Hrecvs⟩, Hpast⟩, Hp, HO⟩ Hk
  iapply (take_runs m ρ c k.1 h k.2.val hh k.2.isLt (K (c, .inr (k, ⟨h, hh⟩, false))) (K (c, .inr (k, ⟨h, hh⟩, true))) v hv) $$ [Hc1 Hc2 HO Ha1 Ha2 Hp]
  · isplitr; · iapply (known_send m ρ K c k h hh); iexact HK
    isplitr; · iapply (known_recv m ρ K c k h hh); iexact HK
    isplitr; · iapply (known_levels m ρ K); iexact HK
    isplitl [Hc1]; · iexact Hc1
    isplitl [Hc2]; · iexact Hc2
    isplitl [HO]; · iexact HO
    isplitl [Ha1]; · iexact Ha1
    isplitl [Ha2] <;> iassumption
  iintro ⟨HO, Ha1, Ha2, Hb, Ht, Hp⟩
  iapply Hk
  unfold ready recvs past
  rw [bigSep_range_succ]
  isplitr [Hp HO]
  · isplitl [Ht]; · iexact Ht
    isplitl [Htoks]; · iexact Htoks
    isplitl [Hroom]; · iexact Hroom
    isplitl [Hrecvs]; · iexact Hrecvs
    isplitl [Ha1 Ha2 Hb]
    · isplitl [Ha1]; · iexact Ha1
      isplitl [Ha2] <;> iassumption
    · iexact Hpast
  · isplitl [Hp] <;> iassumption

theorem seq_runs (c : Dev nD) {α β : Type} (p : P (F := F) α) (k : α → P (F := F) β) {Q : β → sProp 𝕄} :
    Runs c p (fun a => Runs c (k a) Q) ⊢ Runs c (p >>= k) Q := by
  unfold Runs
  rw [wp_bind]

theorem relay_runs (K : Dev nD × Key → ℕ) (c : Dev nD) (k : Chain) (h : ℕ) (hh : h + 1 < 7) (v : Chain → ℕ) (hk : v k = h + 1) (hv : ∀ k, h + 1 ≤ v k)
    {Q : PUnit → sProp 𝕄} :
    iprop(known m ρ K ∗ flying c k h ∗ pslot c k.1 k.2.val (prodAt m ρ c k (h + 1)) ∗ owing c (owed c v))
      ⊢ iprop((flying c k (h + 1) ∗ pslotAny c k.1 k.2.val ∗ owing c (owed c (bump v k)) -∗ Q ⟨⟩) -∗ Runs c (relay k.1 c h k.2.val) Q) := by
  unfold relay
  iintro ⟨#HK, Hf, Hp, HO⟩ Hk
  iapply (seq_runs c)
  iapply (flying_take m ρ K c k h (by omega) v hv) $$ [Hf Hp HO]
  · isplitr; · iexact HK
    isplitl [Hf]; · iexact Hf
    isplitl [Hp] <;> iassumption
  iintro ⟨Hr, Hp, HO⟩
  iapply (ready_send m ρ K c k (h + 1) hh v hk) $$ [Hr HO]
  · isplitr; · iexact HK
    isplitl [Hr] <;> iassumption
  iintro ⟨Hf, HO⟩
  iapply Hk
  isplitl [Hf]; · iexact Hf
  isplitl [Hp] <;> iassumption

end Cert.KernelIdeal.Ring

end
-- ==== Proof.Ideal.Body.lean ====
/-
  The body, phase by phase: the barrier, the first tiles, the hops of the four chains, the result.

  A hop takes the four chains from `flying` at its number to `flying` at the next; the phases around it open and close.
-/
module

public import proofs.«01_k».proof.Proof.Ideal.Chain

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- One assertion for each of the four chains, in the order the kernel runs them. -/
def four (Φ : Chain → sProp 𝕄) : sProp 𝕄 := iprop(Φ (false, 0) ∗ Φ (true, 0) ∗ Φ (false, 1) ∗ Φ (true, 1))

/-- All four chains one send further. -/
theorem bump_four (n : ℕ) : bump (bump (bump (bump (fun _ => n) (false, 0)) (true, 0)) (false, 1)) (true, 1) = fun _ => n + 1 := by
  funext k
  obtain ⟨d, b⟩ := k
  cases d <;> fin_cases b <;> simp [bump, Function.update, Prod.ext_iff]

/-! ## The barrier -/

/-- The tiles of a chain that others write: from the second on. -/
def landing (c : Dev nD) (k : Chain) : sProp 𝕄 := bigSep (Finset.Ico 0 7) fun i => tileAny (F := F) c k.1 (i + 1) k.2.val

theorem barPay_src (c : Dev nD) (d : Bool) : (barPay (F := F) (src d c) d : sProp 𝕄) = iprop(landing c (d, 0) ∗ landing c (d, 1)) := by
  unfold barPay room landing
  rw [dst_src]; rfl

/-- A unit to the barrier of the device a direction's chains receive from, paid with the tiles of the direction. -/
theorem signal_runs (c n : Dev nD) (d : Bool) (hn : n = src d c) (κ : ℕ) (O O' : CellTallies nD τ sig Unit)
    (hO : O = O' + tallyAt (barCell (src d c)) () 1) {α : Type} {k : PUnit → P (F := F) α} {Q : α → sProp 𝕄} :
    iprop(cellAt m ρ κ (barCell (src d c)) ∗ owing c O ∗ dutyTok ER (barCell (src d c)) 0 d ∗ landing c (d, 0) ∗ landing c (d, 1))
      ⊢ iprop((owing c O' -∗ Runs c (k ⟨⟩) Q) -∗ Runs c (.op (.semSignal (n : Thread nD τ) barS 1) k) Q) := by
  subst hn
  unfold cellAt owing
  iintro ⟨⟨#HI, #HR⟩, ⟨%W, HO⟩, Ht, Hl⟩ Hk
  iapply (Rounds.wp_signal 𝒱₀ ER (rd m ρ) (c : Thread nD τ) none (dst := (src d c : Thread nD τ)) (κ := κ) (r := 0) (d := d) (W := W)
      (by rw [duties_bar]; exact Finset.mem_univ d) rfl () O' hO) $$ [HO Ht Hl]
  · isplitr; · iexact HI
    isplitl [HO]; · iexact HO
    isplitl [Ht]; · iexact Ht
    isplitl [Hl]
    · rw [payload_bar, barPay_src]; iexact Hl
    · iexact HR
  iintro HO
  iapply Hk
  iexists W; iexact HO

def atBarrier (c : Dev nD) : sProp 𝕄 :=
  iprop(dutyTok ER (barCell (src false c)) 0 false ∗ dutyTok ER (barCell (src true c)) 0 true ∗ cred (tallyAt (barCell c) () 2)
    ∗ atPos ER (barCell c) 0 ∅ 0)

theorem enter_runs (K : Dev nD × Key → ℕ) (c : Dev nD) {Q : PUnit → sProp 𝕄} :
    iprop(known m ρ K ∗ atBarrier c ∗ four (landing c) ∗ owing c (O₀ c))
      ⊢ iprop((atPos ER (barCell c) 1 ∅ 0 ∗ four (fun k => room c k.1 0 k.2.val) ∗ owing c (owed c fun _ => 0) -∗ Q ⟨⟩) -∗ Runs c (enter c) Q) := by
  unfold enter atBarrier four
  iintro ⟨#HK, ⟨Ht1, Ht2, Hc, Hat⟩, ⟨Hl1, Hl2, Hl3, Hl4⟩, HO⟩ Hk
  simp only [semSignalWord, semWaitWord, Prog.lift, Prog.bind_op, Prog.bind_ret]
  iapply (signal_runs m ρ c _ false (dev1_eq c) (K (src false c, .inl ())) (O₀ c) (O₁ c) rfl) $$ [HO Ht1 Hl1 Hl3]
  · isplitr; · iapply (known_bar m ρ K (src false c)); iexact HK
    isplitl [HO]; · iexact HO
    isplitl [Ht1]; · iexact Ht1
    isplitl [Hl1]; · iexact Hl1
    iexact Hl3
  iintro HO
  iapply (signal_runs m ρ c _ true (dev2_eq c) (K (src true c, .inl ())) (O₁ c) (owed c fun _ => 0) rfl) $$ [HO Ht2 Hl2 Hl4]
  · isplitr; · iapply (known_bar m ρ K (src true c)); iexact HK
    isplitl [HO]; · iexact HO
    isplitl [Ht2]; · iexact Ht2
    isplitl [Hl2]; · iexact Hl2
    iexact Hl4
  iintro HO
  iapply (wait_runs m ρ c (.reg barS) (K (c, .inl ())) 2 (expect_bar m ρ c) (fun _ => 0) 1 (Nat.le_refl 1) (fun _ => by omega)
    (fun Q' => wpE_semWait_eq (defs := defs₀ (F := F)) 𝒱₀ (c : Thread nD τ) none Set.univ Q')) $$ [Hc HO Hat]
  · isplitr; · iapply (known_bar m ρ K c); iexact HK
    isplitr; · iapply (known_levels m ρ K); iexact HK
    isplitl [Hc]; · iexact Hc
    isplitl [HO]; · iexact HO
    iexact Hat
  iintro ⟨HO, Hat, Hpay⟩
  ihave Hp := (Entails.of_eq (rest_bar m ρ c)) $$ Hpay
  unfold barPay
  icases Hp with ⟨⟨H1, H3⟩, H2, H4⟩
  iapply ret_runs
  iapply Hk
  isplitl [Hat]; · iexact Hat
  isplitr [HO]
  · isplitl [H1]; · iexact H1
    isplitl [H2]; · iexact H2
    isplitl [H3]; · iexact H3
    iexact H4
  · iexact HO

/-! ## The products -/

def operands (c : Dev nD) : sProp 𝕄 := iprop(xHeld m ρ c ∗ wHeld m ρ c)

theorem opening_runs (c : Dev nD) {Q : PUnit → sProp 𝕄} :
    iprop(operands m ρ c ∗ four fun k => tileAny c k.1 0 k.2.val)
      ⊢ iprop((operands m ρ c ∗ (four fun k => tile c k.1 0 k.2.val (tileVal m ρ k.1 k.2.val 0 c)) -∗ Q ⟨⟩) -∗ Runs c (opening c) Q) := by
  unfold opening operands four
  iintro ⟨⟨Hx, Hw⟩, H1, H2, H3, H4⟩ Hk
  iapply (seq_runs c); iapply (rows_runs m ρ c false 0) $$ Hx; iintro Hx
  iapply (seq_runs c); iapply (rows_runs m ρ c true 0) $$ Hx; iintro Hx
  iapply (seq_runs c); iapply (first_runs m ρ c false 0 _) $$ [Hw H1]
  · isplitl [Hw]; · iexact Hw
    iexact H1
  iintro ⟨Hw, H1⟩
  iapply (seq_runs c); iapply (first_runs m ρ c true 0 _) $$ [Hw H2]
  · isplitl [Hw]; · iexact Hw
    iexact H2
  iintro ⟨Hw, H2⟩
  iapply (seq_runs c); iapply (first_runs m ρ c false 1 _) $$ [Hw H3]
  · isplitl [Hw]; · iexact Hw
    iexact H3
  iintro ⟨Hw, H3⟩
  iapply (first_runs m ρ c true 1 _) $$ [Hw H4]
  · isplitl [Hw]; · iexact Hw
    iexact H4
  iintro ⟨Hw, H4⟩
  iapply Hk
  isplitl [Hx Hw]
  · isplitl [Hx]; · iexact Hx
    iexact Hw
  isplitl [H1]; · iexact H1
  isplitl [H2]; · iexact H2
  isplitl [H3]; · iexact H3
  iexact H4

theorem parts_runs (c : Dev nD) (h : ℕ) {Q : PUnit → sProp 𝕄} :
    iprop(operands m ρ c ∗ four fun k => pslotAny c k.1 k.2.val)
      ⊢ iprop((operands m ρ c ∗ (four fun k => pslot c k.1 k.2.val (prodAt m ρ c k (h + 1))) -∗ Q ⟨⟩) -∗ Runs c (parts c h) Q) := by
  unfold parts operands four
  iintro ⟨⟨Hx, Hw⟩, H1, H2, H3, H4⟩ Hk
  iapply (seq_runs c); iapply (rows_runs m ρ c false (h + 1)) $$ Hx; iintro Hx
  iapply (seq_runs c); iapply (rows_runs m ρ c true (h + 1)) $$ Hx; iintro Hx
  iapply (seq_runs c); iapply (part_runs m ρ c false 0 _) $$ [Hw H1]
  · isplitl [Hw]; · iexact Hw
    iexact H1
  iintro ⟨Hw, H1⟩
  iapply (seq_runs c); iapply (part_runs m ρ c true 0 _) $$ [Hw H2]
  · isplitl [Hw]; · iexact Hw
    iexact H2
  iintro ⟨Hw, H2⟩
  iapply (seq_runs c); iapply (part_runs m ρ c false 1 _) $$ [Hw H3]
  · isplitl [Hw]; · iexact Hw
    iexact H3
  iintro ⟨Hw, H3⟩
  iapply (part_runs m ρ c true 1 _) $$ [Hw H4]
  · isplitl [Hw]; · iexact Hw
    iexact H4
  iintro ⟨Hw, H4⟩
  iapply Hk
  isplitl [Hx Hw]
  · isplitl [Hx]; · iexact Hx
    iexact Hw
  isplitl [H1]; · iexact H1
  isplitl [H2]; · iexact H2
  isplitl [H3]; · iexact H3
  iexact H4

/-- The result's column block of a chain. -/
def outVal (c : Dev nD) (k : Chain) : Vec F S256x512 .f32 := outP (tileVal m ρ k.1 k.2.val 7 c)

/-- The finished tile stays; the result's block is written. -/
theorem closing_runs (c : Dev nD) {Q : PUnit → sProp 𝕄} :
    iprop((four fun k => tile c k.1 7 k.2.val (tileVal m ρ k.1 k.2.val 7 c)) ∗ four fun k => oslotAny c k.1 k.2.val)
      ⊢ iprop(((four fun k => tile c k.1 7 k.2.val (tileVal m ρ k.1 k.2.val 7 c)) ∗ (four fun k => oslot c k.1 k.2.val (outVal m ρ c k)) -∗ Q ⟨⟩)
          -∗ Runs c closing Q) := by
  unfold closing four
  iintro ⟨⟨Ht1, Ht2, Ht3, Ht4⟩, H1, H2, H3, H4⟩ Hk
  iapply (seq_runs c); iapply (finish_runs c false 0) $$ [Ht1 H1]
  · isplitl [Ht1]; · iexact Ht1
    iexact H1
  iintro ⟨Ht1, H1⟩
  iapply (seq_runs c); iapply (finish_runs c true 0) $$ [Ht2 H2]
  · isplitl [Ht2]; · iexact Ht2
    iexact H2
  iintro ⟨Ht2, H2⟩
  iapply (seq_runs c); iapply (finish_runs c false 1) $$ [Ht3 H3]
  · isplitl [Ht3]; · iexact Ht3
    iexact H3
  iintro ⟨Ht3, H3⟩
  iapply (finish_runs c true 1) $$ [Ht4 H4]
  · isplitl [Ht4]; · iexact Ht4
    iexact H4
  iintro ⟨Ht4, H4⟩
  iapply Hk
  isplitl [Ht1 Ht2 Ht3 Ht4]
  · isplitl [Ht1]; · iexact Ht1
    isplitl [Ht2]; · iexact Ht2
    isplitl [Ht3]; · iexact Ht3
    iexact Ht4
  isplitl [H1]; · iexact H1
  isplitl [H2]; · iexact H2
  isplitl [H3]; · iexact H3
  iexact H4

/-! ## The hops -/

theorem sends_runs (K : Dev nD × Key → ℕ) (c : Dev nD) {Q : PUnit → sProp 𝕄} :
    iprop(known m ρ K ∗ (four fun k => ready m ρ c k 0) ∗ owing c (owed c fun _ => 0))
      ⊢ iprop(((four fun k => flying c k 0) ∗ owing c (owed c fun _ => 1) -∗ Q ⟨⟩) -∗ Runs c (sends c) Q) := by
  unfold sends four
  iintro ⟨#HK, ⟨H1, H2, H3, H4⟩, HO⟩ Hk
  iapply (seq_runs c); iapply (ready_send m ρ K c (false, 0) 0 (by omega) (fun _ => 0) rfl) $$ [H1 HO]
  · isplitr; · iexact HK
    isplitl [H1]; · iexact H1
    iexact HO
  iintro ⟨H1, HO⟩
  iapply (seq_runs c); iapply (ready_send m ρ K c (true, 0) 0 (by omega) (bump (fun _ => 0) (false, 0)) rfl) $$ [H2 HO]
  · isplitr; · iexact HK
    isplitl [H2]; · iexact H2
    iexact HO
  iintro ⟨H2, HO⟩
  iapply (seq_runs c); iapply (ready_send m ρ K c (false, 1) 0 (by omega) (bump (bump (fun _ => 0) (false, 0)) (true, 0)) rfl) $$ [H3 HO]
  · isplitr; · iexact HK
    isplitl [H3]; · iexact H3
    iexact HO
  iintro ⟨H3, HO⟩
  iapply (ready_send m ρ K c (true, 1) 0 (by omega) (bump (bump (bump (fun _ => 0) (false, 0)) (true, 0)) (false, 1)) rfl) $$ [H4 HO]
  · isplitr; · iexact HK
    isplitl [H4]; · iexact H4
    iexact HO
  iintro ⟨H4, HO⟩
  rw [bump_four]
  iapply Hk
  isplitr [HO]
  · isplitl [H1]; · iexact H1
    isplitl [H2]; · iexact H2
    isplitl [H3]; · iexact H3
    iexact H4
  · iexact HO

/-- Between hops: the operands, the partial products' scratch, the four chains' tiles of hop `h` under way. -/
def hopState (c : Dev nD) (h : ℕ) : sProp 𝕄 :=
  iprop(operands m ρ c ∗ (four fun k => pslotAny c k.1 k.2.val) ∗ (four fun k => flying c k h) ∗ owing c (owed c fun _ => h + 1))

theorem le_bump (v : Chain → ℕ) (k : Chain) (n : ℕ) (hv : ∀ k, n ≤ v k) : ∀ k', n ≤ bump v k k' := by
  intro k'
  have := hv k'
  have := hv k
  by_cases he : k' = k
  · subst he; rw [bump, Function.update_self]; omega
  · rw [bump, Function.update_of_ne he]; omega

theorem hop_runs (K : Dev nD × Key → ℕ) (c : Dev nD) (h : ℕ) (hh : h + 1 < 7) {Q : PUnit → sProp 𝕄} :
    iprop(known m ρ K ∗ hopState m ρ c h) ⊢ iprop((hopState m ρ c (h + 1) -∗ Q ⟨⟩) -∗ Runs c (hop c h) Q) := by
  have v1 : ∀ k : Chain, h + 1 ≤ (fun _ : Chain => h + 1) k := fun _ => Nat.le_refl _
  have v2 := le_bump _ (false, 0) _ v1
  have v3 := le_bump _ (true, 0) _ v2
  have v4 := le_bump _ (false, 1) _ v3
  unfold hop hopState
  iintro ⟨#HK, Hop, Hs, Hf, HO⟩ Hk
  iapply (seq_runs c); iapply (parts_runs m ρ c h) $$ [Hop Hs]
  · isplitl [Hop]; · iexact Hop
    iexact Hs
  iintro ⟨Hop, Hs⟩
  unfold four
  icases Hf with ⟨H1, H2, H3, H4⟩
  icases Hs with ⟨P1, P2, P3, P4⟩
  iapply (seq_runs c); iapply (relay_runs m ρ K c (false, 0) h hh _ (by rfl) v1) $$ [H1 P1 HO]
  · isplitr; · iexact HK
    isplitl [H1]; · iexact H1
    isplitl [P1]; · iexact P1
    iexact HO
  iintro ⟨H1, P1, HO⟩
  iapply (seq_runs c); iapply (relay_runs m ρ K c (true, 0) h hh _ (by rfl) v2) $$ [H2 P2 HO]
  · isplitr; · iexact HK
    isplitl [H2]; · iexact H2
    isplitl [P2]; · iexact P2
    iexact HO
  iintro ⟨H2, P2, HO⟩
  iapply (seq_runs c); iapply (relay_runs m ρ K c (false, 1) h hh _ (by rfl) v3) $$ [H3 P3 HO]
  · isplitr; · iexact HK
    isplitl [H3]; · iexact H3
    isplitl [P3]; · iexact P3
    iexact HO
  iintro ⟨H3, P3, HO⟩
  iapply (relay_runs m ρ K c (true, 1) h hh _ (by rfl) v4) $$ [H4 P4 HO]
  · isplitr; · iexact HK
    isplitl [H4]; · iexact H4
    isplitl [P4]; · iexact P4
    iexact HO
  iintro ⟨H4, P4, HO⟩
  rw [bump_four]
  iapply Hk
  isplitl [Hop]; · iexact Hop
  isplitl [P1 P2 P3 P4]
  · isplitl [P1]; · iexact P1
    isplitl [P2]; · iexact P2
    isplitl [P3]; · iexact P3
    iexact P4
  isplitr [HO]
  · isplitl [H1]; · iexact H1
    isplitl [H2]; · iexact H2
    isplitl [H3]; · iexact H3
    iexact H4
  · iexact HO

/-- After the last hop: every chain's tile finished, nothing owed. -/
def lastState (c : Dev nD) : sProp 𝕄 :=
  iprop(operands m ρ c ∗ (four fun k => pslotAny c k.1 k.2.val) ∗ (four fun k => ready m ρ c k 7) ∗ owing c 0)

theorem lastHop_runs (K : Dev nD × Key → ℕ) (c : Dev nD) {Q : PUnit → sProp 𝕄} :
    iprop(known m ρ K ∗ hopState m ρ c 6) ⊢ iprop((lastState m ρ c -∗ Q ⟨⟩) -∗ Runs c (lastHop c) Q) := by
  have v1 : ∀ k : Chain, 6 + 1 ≤ (fun _ : Chain => 6 + 1) k := fun _ => Nat.le_refl _
  unfold lastHop hopState lastState
  iintro ⟨#HK, Hop, Hs, Hf, HO⟩ Hk
  iapply (seq_runs c); iapply (parts_runs m ρ c 6) $$ [Hop Hs]
  · isplitl [Hop]; · iexact Hop
    iexact Hs
  iintro ⟨Hop, Hs⟩
  unfold four
  icases Hf with ⟨H1, H2, H3, H4⟩
  icases Hs with ⟨P1, P2, P3, P4⟩
  iapply (seq_runs c); iapply (flying_take m ρ K c (false, 0) 6 (by omega) _ v1) $$ [H1 P1 HO]
  · isplitr; · iexact HK
    isplitl [H1]; · iexact H1
    isplitl [P1]; · iexact P1
    iexact HO
  iintro ⟨H1, P1, HO⟩
  iapply (seq_runs c); iapply (flying_take m ρ K c (true, 0) 6 (by omega) _ v1) $$ [H2 P2 HO]
  · isplitr; · iexact HK
    isplitl [H2]; · iexact H2
    isplitl [P2]; · iexact P2
    iexact HO
  iintro ⟨H2, P2, HO⟩
  iapply (seq_runs c); iapply (flying_take m ρ K c (false, 1) 6 (by omega) _ v1) $$ [H3 P3 HO]
  · isplitr; · iexact HK
    isplitl [H3]; · iexact H3
    isplitl [P3]; · iexact P3
    iexact HO
  iintro ⟨H3, P3, HO⟩
  iapply (flying_take m ρ K c (true, 1) 6 (by omega) _ v1) $$ [H4 P4 HO]
  · isplitr; · iexact HK
    isplitl [H4]; · iexact H4
    isplitl [P4]; · iexact P4
    iexact HO
  iintro ⟨H4, P4, HO⟩
  rw [show owed c (fun _ : Chain => 6 + 1) = 0 from owed_done c]
  iapply Hk
  isplitl [Hop]; · iexact Hop
  isplitl [P1 P2 P3 P4]
  · isplitl [P1]; · iexact P1
    isplitl [P2]; · iexact P2
    isplitl [P3]; · iexact P3
    iexact P4
  isplitr [HO]
  · isplitl [H1]; · iexact H1
    isplitl [H2]; · iexact H2
    isplitl [H3]; · iexact H3
    iexact H4
  · iexact HO

/-! ## The body -/

/-- What a chain starts with. -/
def fresh (c : Dev nD) (k : Chain) : sProp 𝕄 := iprop(tileAny (F := F) c k.1 0 k.2.val ∗ landing (F := F) c k ∗ toks c k 0 ∗ recvs c k 0)

theorem ready_zero (c : Dev nD) (k : Chain) :
    iprop(tile c k.1 0 k.2.val (tileVal m ρ k.1 k.2.val 0 c) ∗ room c k.1 0 k.2.val ∗ toks c k 0 ∗ recvs c k 0) ⊢ (ready m ρ c k 0 : sProp 𝕄) := by
  unfold ready past
  rw [Finset.range_zero, bigSep_empty]
  iintro ⟨Ht, Hr, Htk, Hv⟩
  isplitl [Ht]; · iexact Ht
  isplitl [Htk]; · iexact Htk
  isplitl [Hr]; · iexact Hr
  isplitl [Hv]; · iexact Hv
  iempintro

theorem ready_seven (c : Dev nD) (k : Chain) :
    ready m ρ c k 7 ⊢ iprop(tile c k.1 7 k.2.val (tileVal m ρ k.1 k.2.val 7 c) ∗ past c k 7) := by
  unfold ready
  iintro ⟨Ht, -, -, -, Hp⟩
  isplitl [Ht] <;> iassumption

/-- Before the body, and after it. -/
def before (c : Dev nD) : sProp 𝕄 :=
  iprop(operands m ρ c ∗ (four fun k => pslotAny c k.1 k.2.val) ∗ (four fun k => oslotAny c k.1 k.2.val) ∗ (four fun k => fresh c k)
    ∗ atBarrier c ∗ owing c (O₀ c))
def after (c : Dev nD) : sProp 𝕄 :=
  iprop(operands m ρ c ∗ (four fun k => pslotAny c k.1 k.2.val) ∗ (four fun k => oslot c k.1 k.2.val (outVal m ρ c k))
    ∗ (four fun k => iprop(tile c k.1 7 k.2.val (tileVal m ρ k.1 k.2.val 7 c))) ∗ (four fun k => past c k 7)
    ∗ atPos ER (barCell c) 1 ∅ 0 ∗ owing c 0)

theorem four_univ (Φ : Chain → sProp 𝕄) : four Φ = bigSep Finset.univ Φ := by
  rw [bigSep_univ_eq_bigSepL [((false, 0) : Chain), (true, 0), (false, 1), (true, 1)] (by decide) (by decide),
    bigSepL_cons_cons, bigSepL_cons_cons, bigSepL_cons_cons, bigSepL_singleton]
  rfl

theorem four_sep (Φ Ψ : Chain → sProp 𝕄) : four (fun k => iprop(Φ k ∗ Ψ k)) = iprop(four Φ ∗ four Ψ) := by
  rw [four_univ, four_univ, four_univ, bigSep_sep']

theorem four_mono {Φ Ψ : Chain → sProp 𝕄} (h : ∀ k, Φ k ⊢ Ψ k) : four Φ ⊢ four Ψ := by
  unfold four
  exact BIClass.sep_mono (h _) (BIClass.sep_mono (h _) (BIClass.sep_mono (h _) (h _)))

theorem body_runs (K : Dev nD × Key → ℕ) (c : Dev nD) {Q : PUnit → sProp 𝕄} :
    iprop(known m ρ K ∗ before m ρ c) ⊢ iprop((after m ρ c -∗ Q ⟨⟩) -∗ Runs c bodyProg Q) := by
  unfold before bodyProg fresh
  rw [four_sep, four_sep, four_sep]
  iintro ⟨#HK, Hop, Hs, Ho, ⟨Ht, Hl, Htk, Hv⟩, Hb, HO⟩ Hk
  simp only [Prog.lift, Prog.bind_op, Prog.bind_ret, wp_deviceId]
  iapply (seq_runs c); iapply (enter_runs m ρ K c) $$ [Hb Hl HO]
  · isplitr; · iexact HK
    isplitl [Hb]; · iexact Hb
    isplitl [Hl]; · iexact Hl
    iexact HO
  iintro ⟨Hat, Hr, HO⟩
  iapply (seq_runs c); iapply (opening_runs m ρ c) $$ [Hop Ht]
  · isplitl [Hop]; · iexact Hop
    iexact Ht
  iintro ⟨Hop, Ht⟩
  ihave Hrd := (show iprop((four fun k => tile c k.1 0 k.2.val (tileVal m ρ k.1 k.2.val 0 c)) ∗ (four fun k => room c k.1 0 k.2.val)
      ∗ (four fun k => toks c k 0) ∗ (four fun k => recvs c k 0)) ⊢ (four fun k => ready m ρ c k 0 : sProp 𝕄) from by
    rw [← four_sep, ← four_sep, ← four_sep]; exact four_mono fun k => ready_zero m ρ c k) $$ [Ht Hr Htk Hv]
  · isplitl [Ht]; · iexact Ht
    isplitl [Hr]; · iexact Hr
    isplitl [Htk]; · iexact Htk
    iexact Hv
  iapply (seq_runs c); iapply (sends_runs m ρ K c) $$ [Hrd HO]
  · isplitr; · iexact HK
    isplitl [Hrd]; · iexact Hrd
    iexact HO
  iintro ⟨Hf, HO⟩
  ihave Hh := (show iprop(operands m ρ c ∗ (four fun k => pslotAny c k.1 k.2.val) ∗ (four fun k => flying c k 0) ∗ owing c (owed c fun _ => 1))
      ⊢ hopState m ρ c 0 from by unfold hopState; exact .rfl) $$ [Hop Hs Hf HO]
  · isplitl [Hop]; · iexact Hop
    isplitl [Hs]; · iexact Hs
    isplitl [Hf]; · iexact Hf
    iexact HO
  iapply (seq_runs c); iapply (hop_runs m ρ K c 0 (by omega)) $$ [Hh]
  · isplitr <;> iassumption
  iintro Hh
  iapply (seq_runs c); iapply (hop_runs m ρ K c 1 (by omega)) $$ [Hh]
  · isplitr <;> iassumption
  iintro Hh
  iapply (seq_runs c); iapply (hop_runs m ρ K c 2 (by omega)) $$ [Hh]
  · isplitr <;> iassumption
  iintro Hh
  iapply (seq_runs c); iapply (hop_runs m ρ K c 3 (by omega)) $$ [Hh]
  · isplitr <;> iassumption
  iintro Hh
  iapply (seq_runs c); iapply (hop_runs m ρ K c 4 (by omega)) $$ [Hh]
  · isplitr <;> iassumption
  iintro Hh
  iapply (seq_runs c); iapply (hop_runs m ρ K c 5 (by omega)) $$ [Hh]
  · isplitr <;> iassumption
  iintro Hh
  iapply (seq_runs c); iapply (lastHop_runs m ρ K c) $$ [Hh]
  · isplitr <;> iassumption
  unfold lastState
  iintro ⟨Hop, Hs, Hrd, HO⟩
  ihave Hd := (show (four fun k => ready m ρ c k 7 : sProp 𝕄) ⊢ iprop((four fun k => tile c k.1 7 k.2.val (tileVal m ρ k.1 k.2.val 7 c))
      ∗ four fun k => past c k 7) from by
    rw [← four_sep]; exact four_mono fun k => ready_seven m ρ c k) $$ Hrd
  icases Hd with ⟨Ht, Hp⟩
  iapply (closing_runs m ρ c) $$ [Ht Ho]
  · isplitl [Ht]; · iexact Ht
    iexact Ho
  iintro ⟨Ht, Ho⟩
  iapply Hk
  unfold after
  isplitl [Hop]; · iexact Hop
  isplitl [Hs]; · iexact Hs
  isplitl [Ho]; · iexact Ho
  isplitl [Ht]; · iexact Ht
  isplitl [Hp]; · iexact Hp
  isplitl [Hat] <;> iassumption

end Cert.KernelIdeal.Ring

end
-- ==== Proof.Ideal.Buffers.lean ====
/-
  A buffer as its parts: the tiles of a direction, its partial products, the column blocks of the result.

  Held at anything, a buffer is its parts held at anything, whenever the parts are disjoint and cover it; parts held at
  values give the buffer at contents that read as each value on its part.
-/
module

public import proofs.«01_k».proof.Proof.Ideal.Body
public import Idealize.ShloMosaic.Lib.Memref

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Parts in general -/

omit [FloatOps F] in
theorem weaken_all {T : Type} [Fintype T] {A : T → Type} (Φ : (t : T) → A t → sProp 𝕄) (V : (t : T) → A t) :
    (bigSep Finset.univ fun t => Φ t (V t)) ⊢ bigSep Finset.univ fun t => iprop(∃ y, Φ t y) :=
  bigSep_mono fun t _ => show Φ t (V t) ⊢ iprop(∃ y, Φ t y) from by iintro H; iexists _; iexact H

section Cut
variable {sh : Shape} {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

omit [DecidableEq T] in
/-- Values given part by part are the parts of one function. -/
theorem glue {A : Type} (V : (t : T) → (r t).shape.Idx → A) : ∃ X : sh.Idx → A, ∀ t j, X ((r t).emb j) = V t j := by
  classical
  have hin (t : T) (j : (r t).shape.Idx) : (r t).emb j ∈ (r t).set := by
    rw [← (r t).map_emb_univ]; exact Finset.mem_map_of_mem _ (Finset.mem_univ j)
  have hone (t t' : T) (j : (r t).shape.Idx) (j' : (r t').shape.Idx) (h : (r t').emb j' = (r t).emb j) : V t' j' = V t j := by
    by_cases ht : t' = t
    · subst ht; rw [(r t').emb.injective h]
    · exact absurd (h ▸ hin t' j') (Finset.disjoint_right.mp (hd t' t ht) (hin t j))
  have hex (x : sh.Idx) : ∃ t, ∃ j, (r t).emb j = x := by
    obtain ⟨t, -, hx⟩ := Finset.mem_biUnion.mp (hcov.symm ▸ Finset.mem_univ x)
    rw [← (r t).map_emb_univ, Finset.mem_map] at hx
    obtain ⟨j, -, rfl⟩ := hx
    exact ⟨t, j, rfl⟩
  choose t₀ j₀ h₀ using hex
  exact ⟨fun x => V (t₀ x) (j₀ x), fun t j => hone t _ j _ (h₀ _)⟩

variable (c : Dev nD) {e : EltTy} (M : Memref sig .tc .vmem sh e)

/-- Parts held at the parts of `X` are the buffer held at `X`. -/
theorem join_at (X : sh.Idx → Elt F e) (V : (t : T) → (r t).shape.Idx → Elt F e) (hX : ∀ t j, X ((r t).emb j) = V t j) :
    (bigSep Finset.univ fun t => owns (c : Thread nD τ) (M.slice (r t) (hr t)) fullShare (V t)) ⊢ (owns (c : Thread nD τ) M fullShare X : sProp 𝕄) := by
  rw [show V = fun t j => X ((r t).emb j) from funext fun t => funext fun j => (hX t j).symm]
  exact owns_of_rects (c : Thread nD τ) M fullShare r hr hd hcov X

/-- A buffer held at anything is its parts held at anything. -/
theorem cut_any : (iprop(∃ X, owns (c : Thread nD τ) M fullShare X) : sProp 𝕄)
    = bigSep Finset.univ fun t => iprop(∃ Y, owns (c : Thread nD τ) (M.slice (r t) (hr t)) fullShare Y) := by
  refine BI.equiv_iff.mp ⟨?_, ?_⟩
  · show (iprop(∃ X, owns (c : Thread nD τ) M fullShare X) : sProp 𝕄)
      ⊢ bigSep Finset.univ fun t => iprop(∃ Y, owns (c : Thread nD τ) (M.slice (r t) (hr t)) fullShare Y)
    iintro ⟨%X, H⟩
    iapply (weaken_all (fun t Y => (owns (c : Thread nD τ) (M.slice (r t) (hr t)) fullShare Y : sProp 𝕄)) fun t j => X ((r t).emb j))
    iapply (owns_rects (c : Thread nD τ) M fullShare r hr hd hcov X); iexact H
  · show (bigSep Finset.univ fun t => iprop(∃ Y, owns (c : Thread nD τ) (M.slice (r t) (hr t)) fullShare Y))
      ⊢ (iprop(∃ X, owns (c : Thread nD τ) M fullShare X) : sProp 𝕄)
    iintro H
    ihave H' := (BI.bigSep_exists_pi Finset.univ
      (fun t Y => (owns (c : Thread nD τ) (M.slice (r t) (hr t)) fullShare Y : sProp 𝕄))) $$ H
    icases H' with ⟨%V, H⟩
    obtain ⟨X, hX⟩ := glue r hd hcov V
    iexists X
    iapply (join_at r hr hd hcov c M X V hX); iexact H

end Cut

omit [FloatOps F] in
/-- A whole buffer at any contents. -/
theorem whole_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  have h (X : b.ty.Contents (Elt F)) : (owns (c : Thread nD τ) (Memref.whole b) fullShare X : sProp 𝕄) = ((c : Thread nD τ).loc b) ↦{fullShare} X :=
    owns_whole (c : Thread nD τ) b fullShare X
  simp only [h]

/-! ## The parts at hand -/

abbrev tileF (t : Fin 8 × Fin 2) : Rect S8x2x256x512 := tileR t.1.val t.2.val
theorem tile_disj (t t' : Fin 8 × Fin 2) (h : t ≠ t') : Disjoint (tileF t).set (tileF t').set := by
  obtain ⟨a, b⟩ := t
  obtain ⟨a', b'⟩ := t'
  have ha := a.isLt; have ha' := a'.isLt; have hb := b.isLt; have hb' := b'.isLt
  by_cases he : a = a'
  · have : b ≠ b' := fun hb => h (by rw [he, hb])
    have : b.val ≠ b'.val := fun hv => this (Fin.ext hv)
    refine Rect.unit_disjoint 1 ?_
    show b.val % 2 + 1 ≤ b'.val % 2 ∨ b'.val % 2 + 1 ≤ b.val % 2
    omega
  · have : a.val ≠ a'.val := fun hv => he (Fin.ext hv)
    refine Rect.unit_disjoint 0 ?_
    show a.val % 8 + 1 ≤ a'.val % 8 ∨ a'.val % 8 + 1 ≤ a.val % 8
    omega
theorem tile_cover : (Finset.univ : Finset (Fin 8 × Fin 2)).biUnion (fun t => (tileF t).set) = Finset.univ := by
  refine Finset.eq_univ_iff_forall.mpr fun x => Finset.mem_biUnion.mpr ⟨(x 0, x 1), Finset.mem_univ _, ?_⟩
  have h0 : (x 0).val < 8 := (x 0).isLt
  have h1 : (x 1).val < 2 := (x 1).isLt
  have h2 : (x 2).val < 256 := (x 2).isLt
  have h3 : (x 3).val < 512 := (x 3).isLt
  refine Rect.mem_set_unit.mpr fun a => ?_
  match a with
  | ⟨0, _⟩ => show (x 0).val % 8 ≤ (x 0).val ∧ (x 0).val < (x 0).val % 8 + 1; omega
  | ⟨1, _⟩ => show (x 1).val % 2 ≤ (x 1).val ∧ (x 1).val < (x 1).val % 2 + 1; omega
  | ⟨2, _⟩ => show 0 ≤ (x 2).val ∧ (x 2).val < 0 + 256; omega
  | ⟨3, _⟩ => show 0 ≤ (x 3).val ∧ (x 3).val < 0 + 512; omega

abbrev partF (t : Fin 2) : Rect S2x256x512 := partR t.val
theorem part_disj (t t' : Fin 2) (h : t ≠ t') : Disjoint (partF t).set (partF t').set := by
  have hb := t.isLt; have hb' := t'.isLt
  have : t.val ≠ t'.val := fun hv => h (Fin.ext hv)
  refine Rect.unit_disjoint 0 ?_
  show t.val % 2 + 1 ≤ t'.val % 2 ∨ t'.val % 2 + 1 ≤ t.val % 2
  omega
theorem part_cover : (Finset.univ : Finset (Fin 2)).biUnion (fun t => (partF t).set) = Finset.univ := by
  refine Finset.eq_univ_iff_forall.mpr fun x => Finset.mem_biUnion.mpr ⟨x 0, Finset.mem_univ _, ?_⟩
  have h0 : (x 0).val < 2 := (x 0).isLt
  have h1 : (x 1).val < 256 := (x 1).isLt
  have h2 : (x 2).val < 512 := (x 2).isLt
  refine Rect.mem_set_unit.mpr fun a => ?_
  match a with
  | ⟨0, _⟩ => show (x 0).val % 2 ≤ (x 0).val ∧ (x 0).val < (x 0).val % 2 + 1; omega
  | ⟨1, _⟩ => show 0 ≤ (x 1).val ∧ (x 1).val < 0 + 256; omega
  | ⟨2, _⟩ => show 0 ≤ (x 2).val ∧ (x 2).val < 0 + 512; omega

abbrev colF (k : Chain) : Rect S256x2048 := colR k.1 k.2.val
theorem col_val (k : Chain) : col k.1 k.2.val = 512 * (2 * k.1.toNat + k.2.val) := by
  obtain ⟨d, b⟩ := k
  have := b.isLt
  cases d
  · show 512 * (b.val % 2) = 512 * (2 * 0 + b.val); omega
  · show 1024 + 512 * (b.val % 2) = 512 * (2 * 1 + b.val); omega
theorem col_disj (k k' : Chain) (h : k ≠ k') : Disjoint (colF k).set (colF k').set := by
  have hne : 2 * k.1.toNat + k.2.val ≠ 2 * k'.1.toNat + k'.2.val := by
    revert k k'; decide
  refine Rect.unit_disjoint 1 ?_
  show col k.1 k.2.val + 512 ≤ col k'.1 k'.2.val ∨ col k'.1 k'.2.val + 512 ≤ col k.1 k.2.val
  rw [col_val, col_val]; omega
/-- The chain whose column block a column is in. -/
def chainOf (n : ℕ) : Chain := (decide (2 ≤ n / 512), ⟨n / 512 % 2, Nat.mod_lt _ (by decide)⟩)
theorem col_chainOf (n : ℕ) (hn : n < 2048) : col (chainOf n).1 (chainOf n).2.val = 512 * (n / 512) := by
  rw [col_val]
  unfold chainOf
  by_cases h : 2 ≤ n / 512
  · rw [decide_eq_true h]; show 512 * (2 * 1 + n / 512 % 2) = _; omega
  · rw [decide_eq_false h]; show 512 * (2 * 0 + n / 512 % 2) = _; omega
theorem col_cover : (Finset.univ : Finset Chain).biUnion (fun k => (colF k).set) = Finset.univ := by
  refine Finset.eq_univ_iff_forall.mpr fun x => Finset.mem_biUnion.mpr ⟨chainOf (x 1).val, Finset.mem_univ _, ?_⟩
  have h0 : (x 0).val < 256 := (x 0).isLt
  have h1 : (x 1).val < 2048 := (x 1).isLt
  refine Rect.mem_set_unit.mpr fun a => ?_
  match a with
  | ⟨0, _⟩ => show 0 ≤ (x 0).val ∧ (x 0).val < 0 + 256; omega
  | ⟨1, _⟩ =>
    show col _ _ ≤ (x 1).val ∧ (x 1).val < col _ _ + 512
    rw [col_chainOf _ h1]; omega

/-! ## The buffers of the kernel -/

omit [FloatOps F] in
theorem bigSep_fin (n : ℕ) (A : ℕ → sProp 𝕄) : (bigSep Finset.univ fun i : Fin n => A i.val) = bigSep (Finset.range n) A := by
  rw [show Finset.range n = (Finset.univ : Finset (Fin n)).map Fin.valEmbedding from ?_, bigSep_map]
  · rfl
  · ext i
    simp only [Finset.mem_range, Finset.mem_map, Finset.mem_univ, true_and, Fin.valEmbedding_apply]
    exact ⟨fun h => ⟨⟨i, h⟩, rfl⟩, fun ⟨j, hj⟩ => hj ▸ j.isLt⟩
omit [FloatOps F] in
/-- A run over the numbers below `n + 1` with its first set apart, the others counted from the second. -/
theorem bigSep_range_first (n : ℕ) (A : ℕ → sProp 𝕄) :
    bigSep (Finset.range (n + 1)) A = iprop(A 0 ∗ bigSep (Finset.Ico 0 n) fun i => A (i + 1)) := by
  have h : Finset.range (n + 1) = insert 0 ((Finset.Ico 0 n).map ⟨Nat.succ, Nat.succ_injective⟩) := by
    ext i
    simp only [Finset.mem_range, Finset.mem_insert, Finset.mem_map, Finset.mem_Ico, Function.Embedding.coeFn_mk]
    constructor
    · intro hi
      rcases Nat.eq_zero_or_pos i with h0 | h0
      · exact Or.inl h0
      · exact Or.inr ⟨i - 1, ⟨Nat.zero_le _, by omega⟩, by show i - 1 + 1 = i; omega⟩
    · rintro (h0 | ⟨j, ⟨-, hj⟩, rfl⟩)
      · omega
      · show j + 1 < n + 1; omega
  have h0 : (0 : ℕ) ∉ (Finset.Ico 0 n).map ⟨Nat.succ, Nat.succ_injective⟩ := by
    intro hm
    obtain ⟨j, -, hj⟩ := Finset.mem_map.mp hm
    exact Nat.succ_ne_zero j hj
  rw [h, bigSep_insert h0, bigSep_map]
  rfl

/-- A direction's tiles. -/
theorem tiles_eq (c : Dev nD) (d : Bool) : (iprop(∃ X, owns (c : Thread nD τ) (commM d) fullShare X) : sProp 𝕄)
    = bigSep Finset.univ fun b : Fin 2 => bigSep (Finset.range 8) fun h => tileAny c d h b.val := by
  rw [cut_any tileF (fun _ _ => rfl) tile_disj tile_cover c (commM d), bigSep_univ_equiv (Equiv.prodComm (Fin 2) (Fin 8)), bigSep_univ_prod]
  exact bigSep_congr fun b _ => bigSep_fin 8 fun h => tileAny c d h b.val
theorem pslots_eq (c : Dev nD) (d : Bool) : (iprop(∃ X, owns (c : Thread nD τ) (partM d) fullShare X) : sProp 𝕄)
    = bigSep Finset.univ fun b : Fin 2 => pslotAny c d b.val :=
  cut_any partF (fun _ _ => rfl) part_disj part_cover c (partM d)
theorem oslots_eq (c : Dev nD) : (iprop(∃ X, owns (c : Thread nD τ) oM fullShare X) : sProp 𝕄) = four fun k => oslotAny c k.1 k.2.val := by
  rw [four_univ]
  exact cut_any colF (fun _ _ => rfl) col_disj col_cover c oM

/-- The result on a device: each chain's column block. -/
def outAt (c : Dev nD) : (cc0_stg2_0 : Ref sig .tc).ty.Contents (Elt F) := (glue colF col_disj col_cover fun k => outVal m ρ c k).choose
theorem outAt_col (c : Dev nD) (k : Chain) (j : S256x512.Idx) : outAt m ρ c ((colF k).emb j) = outVal m ρ c k j :=
  (glue colF col_disj col_cover fun k => outVal m ρ c k).choose_spec k j
theorem oslots_join (c : Dev nD) : (four fun k => oslot c k.1 k.2.val (outVal m ρ c k)) ⊢ (owns (c : Thread nD τ) oM fullShare (outAt m ρ c) : sProp 𝕄) := by
  rw [four_univ]
  exact join_at colF (fun _ _ => rfl) col_disj col_cover c oM (outAt m ρ c) (fun k => outVal m ρ c k) fun k j => outAt_col m ρ c k j

/-- One assertion per direction and column block is one per chain. -/
theorem both_four (Φ : Bool → Fin 2 → sProp 𝕄) :
    iprop((bigSep Finset.univ fun b => Φ false b) ∗ bigSep Finset.univ fun b => Φ true b) = four fun k => Φ k.1 k.2 := by
  rw [four_univ, bigSep_univ_prod, bigSep_univ_eq_bigSepL [false, true] (by decide) (by decide), bigSepL_cons_cons, bigSepL_singleton]
  rfl

/-- The four scratch buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

omit [FloatOps F] in
theorem sep_pairs (A B C D : sProp 𝕄) : iprop(A ∗ B ∗ C ∗ D) = iprop((A ∗ B) ∗ C ∗ D) := by
  refine BI.equiv_iff.mp ⟨?_, ?_⟩
  · show iprop(A ∗ B ∗ C ∗ D) ⊢ iprop((A ∗ B) ∗ C ∗ D)
    iintro ⟨H1, H2, H3, H4⟩
    isplitl [H1 H2]
    · isplitl [H1]; · iexact H1
      iexact H2
    isplitl [H3]; · iexact H3
    iexact H4
  · show iprop((A ∗ B) ∗ C ∗ D) ⊢ iprop(A ∗ B ∗ C ∗ D)
    iintro ⟨⟨H1, H2⟩, H3, H4⟩
    isplitl [H1]; · iexact H1
    isplitl [H2]; · iexact H2
    isplitl [H3]; · iexact H3
    iexact H4

theorem scratch_eq (c : Dev nD) :
    (scratch c : sProp 𝕄) = iprop((four fun k => bigSep (Finset.range 8) fun h => tileAny (F := F) c k.1 h k.2.val) ∗ four fun k => pslotAny (F := F) c k.1 k.2.val) := by
  unfold scratch
  rw [whole_any, whole_any, whole_any, whole_any]
  rw [← both_four (fun d b => bigSep (Finset.range 8) fun h => tileAny (F := F) c d h b.val), ← both_four (fun d b => pslotAny (F := F) c d b.val),
    ← tiles_eq c false, ← tiles_eq c true, ← pslots_eq c false, ← pslots_eq c true]
  exact sep_pairs _ _ _ _

end Cert.KernelIdeal.Ring

end
-- ==== Proof.Ideal.Deal.lean ====
/-
  What the launch deals each device, and what each device closes its cells to.

  A cell's position stays with its device. A duty's token goes to the device that pays it: a barrier cell's two to the
  devices beside it, a receiver's cell's one to the device it receives from. A barrier cell is owed one unit by each
  neighbour, a receiver's cell a tile's credit by the device it receives from, and the launch deals the credit for all of it.
-/
module

public import proofs.«01_k».proof.Proof.Ideal.Buffers
public import Idealize.ShloMosaic.Lib.Rounds.Family
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A device's cells -/

/-- A hop of a chain, with the cell's side: the sender's, the receiver's. -/
abbrev Hop : Type := Chain × Fin 7 × Bool

theorem num_inj : ∀ (d d' : Bool) (b b' : Fin 2) (h h' : Fin 7) (s s' : Bool),
    3 + 28 * d.toNat + 14 * s.toNat + (2 * h.val + b.val) = 3 + 28 * d'.toNat + 14 * s'.toNat + (2 * h'.val + b'.val) →
      d = d' ∧ b = b' ∧ h = h' ∧ s = s' := by
  intro d d' b b' h h' s s' he
  have := b.isLt; have := b'.isLt; have := h.isLt; have := h'.isLt
  have hd := d.toNat_le; have hd' := d'.toNat_le; have hs := s.toNat_le; have hs' := s'.toNat_le
  have hb (a a' : Bool) (h : a.toNat = a'.toNat) : a = a' := by revert h; cases a <;> cases a' <;> decide
  refine ⟨hb _ _ ?_, Fin.ext ?_, Fin.ext ?_, hb _ _ ?_⟩ <;> omega

/-- The number of a hop's cell. -/
def semOf (x : Hop) : DmaSem sig := if x.2.2 then recvS x.1.1 x.2.1.val x.1.2.val else sendS x.1.1 x.2.1.val x.1.2.val
theorem semOf_val (x : Hop) : (semOf x).val = 3 + 28 * x.1.1.toNat + 14 * x.2.2.toNat + (2 * x.2.1.val + x.1.2.val) := by
  obtain ⟨⟨d, b⟩, h, s⟩ := x
  cases s
  · exact sendS_val_fin d h b
  · refine (recvS_val_fin d h b).trans ?_
    show 17 + 28 * d.toNat + (2 * h.val + b.val) = 3 + 28 * d.toNat + 14 * 1 + (2 * h.val + b.val)
    omega
theorem semOf_inj : Function.Injective semOf := by
  rintro ⟨⟨d, b⟩, h, s⟩ ⟨⟨d', b'⟩, h', s'⟩ he
  have hv := congrArg Fin.val he
  rw [semOf_val, semOf_val] at hv
  obtain ⟨rfl, rfl, rfl, rfl⟩ := num_inj d d' b b' h h' s s' hv
  rfl
theorem csem_hop (x : Hop) : csem (.inr x) = .dma (semOf x) := by
  obtain ⟨⟨d, b⟩, h, s⟩ := x
  cases s <;> rfl

theorem csem_inj : Function.Injective csem := by
  rintro (⟨⟩ | x) (⟨⟩ | x') h
  · rfl
  · rw [csem_hop] at h; exact absurd h (by intro h'; cases h')
  · rw [csem_hop] at h; exact absurd h (by intro h'; cases h')
  · rw [csem_hop, csem_hop] at h
    rw [semOf_inj (SemLoc.dma.inj h)]
theorem kcell_inj : Function.Injective kcell := by
  rintro ⟨c, y⟩ ⟨c', y'⟩ h
  have hc : c = c' := congrArg (fun g : GSem nD τ sig => g.1.1) h
  have hy : y = y' := csem_inj (congrArg Prod.snd h)
  rw [hc, hy]

/-- The kernel's own semaphores: the hops'. -/
abbrev osem (x : Hop) : SemLoc sig := csem (.inr x)
theorem ownSemFacts : Pipeline.OwnSemFacts cfg0.spec osem where
  isScoped x := by
    have h : ∀ q : DmaSem sig, (SemLoc.dma q : SemLoc sig).isScoped .tc = true := by decide
    rw [osem, csem_hop]; exact h _
  inj x x' h := Sum.inr.inj (csem_inj h)
  disj x w s h := by
    rw [osem, csem_hop] at h
    have hv := congrArg Fin.val (SemLoc.dma.inj h)
    have hw : ∀ (w : Fin 3) (s : Fin (spec0 w).nbuf), ((spec0 w).sem s).val < 3 := by decide
    have hlt := hw w s
    have hval := semOf_val x
    rw [hv] at hval
    exact absurd hlt (by rw [show ((spec0 w).sem s).val = _ from hval]; omega)

theorem sum_sep {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- One assertion per chain and hop. -/
theorem hops_eq (A : Chain → ℕ → sProp 𝕄) :
    (bigSep Finset.univ fun x : Chain × Fin 7 => A x.1 x.2.val) = four fun k => bigSep (Finset.Ico 0 7) (A k) := by
  rw [four_univ, bigSep_univ_prod]
  exact bigSep_congr fun k _ => by rw [← Finset.range_eq_Ico]; exact bigSep_fin 7 (A k)
/-- One assertion per hop and side. -/
theorem sides_eq (A : Chain → ℕ → Bool → sProp 𝕄) :
    (bigSep Finset.univ fun x : Hop => A x.1 x.2.1.val x.2.2)
      = four fun k => bigSep (Finset.Ico 0 7) fun h => iprop(A k h false ∗ A k h true) := by
  have h2 (Φ : Bool → sProp 𝕄) : bigSep Finset.univ Φ = iprop(Φ false ∗ Φ true) := by
    rw [bigSep_univ_eq_bigSepL [false, true] (by decide) (by decide), bigSepL_cons_cons, bigSepL_singleton]
    rfl
  rw [← hops_eq fun k h => iprop(A k h false ∗ A k h true)]
  refine (bigSep_univ_prod _).trans (Eq.trans ?_ (bigSep_univ_prod _).symm)
  exact bigSep_congr fun k _ => (bigSep_univ_prod _).trans (bigSep_congr fun h _ => h2 fun s => A k h.val s)

/-- The semaphore of a side of a hop. -/
abbrev sideS (k : Chain) (h : ℕ) (s : Bool) : DmaSem sig := if s then recvS k.1 h k.2.val else sendS k.1 h k.2.val
/-- One assertion per cell of a device. -/
theorem keys_eq (A : SemLoc sig → sProp 𝕄) : (bigSep Finset.univ fun y : Key => A (csem y))
    = iprop(A (.reg barS) ∗ four fun k => bigSep (Finset.Ico 0 7) fun h => iprop(A (.dma (sendS k.1 h k.2.val)) ∗ A (.dma (recvS k.1 h k.2.val)))) := by
  rw [sum_sep, bigSep_univ_eq_bigSepL [()] (by decide) (by decide), bigSepL_singleton,
    show (fun x : Hop => A (csem (.inr x))) = fun x => A (.dma (sideS x.1 x.2.1.val x.2.2)) from funext fun x => by rw [csem_hop]; rfl]
  exact congrArg (fun X => iprop(A (.reg barS) ∗ X)) (sides_eq fun k h s => A (.dma (sideS k h s)))

/-! ## The tokens -/

/-- A duty of a device's cells: a barrier cell's of a direction, a hop's cell's only one. -/
abbrev Duty : Type := Bool ⊕ Hop
abbrev dutyAt (ct : Dev nD × Duty) : GSem nD τ sig × ℕ × Bool := match ct.2 with
  | .inl d => (kcell (ct.1, .inl ()), 0, d)
  | .inr x => (kcell (ct.1, .inr x), 0, false)
theorem dutyAt_inj : Function.Injective dutyAt := by
  rintro ⟨c, d | x⟩ ⟨c', d' | x'⟩ h
  · have h1 := kcell_inj (congrArg Prod.fst h)
    have h2 : d = d' := congrArg (fun z : GSem nD τ sig × ℕ × Bool => z.2.2) h
    have hc : c = c' := congrArg Prod.fst h1
    rw [hc, h2]
  · have h1 := congrArg Prod.snd (kcell_inj (congrArg Prod.fst h))
    exact absurd h1 (by intro h'; cases h')
  · have h1 := congrArg Prod.snd (kcell_inj (congrArg Prod.fst h))
    exact absurd h1 (by intro h'; cases h')
  · have h1 := kcell_inj (congrArg Prod.fst h)
    have hc : c = c' := congrArg Prod.fst h1
    have hx : x = x' := Sum.inr.inj (congrArg Prod.snd h1)
    rw [hc, hx]

/-- Whose cell the duty is of which device `c` pays. -/
def turn : Duty → Dev nD ≃ Dev nD
  | .inl d => (ring d).symm
  | .inr (k, _, true) => ring k.1
  | .inr (_, _, false) => Equiv.refl _
/-- The tokens of a device's own cells' duties; of the duties the device pays. -/
def ownToks (c : Dev nD) : sProp 𝕄 := bigSep Finset.univ fun t => dutyTok ER (dutyAt (c, t)).1 (dutyAt (c, t)).2.1 (dutyAt (c, t)).2.2
def payToks (c : Dev nD) : sProp 𝕄 :=
  bigSep Finset.univ fun t => dutyTok ER (dutyAt (turn t c, t)).1 (dutyAt (turn t c, t)).2.1 (dutyAt (turn t c, t)).2.2

/-- What is dealt per device and turned, each kind by its own permutation of the devices, is dealt all the same. -/
theorem dealt {T : Type} [Fintype T] (e : T → Dev nD ≃ Dev nD) (A : Dev nD → T → sProp 𝕄) :
    (bigSep Finset.univ fun c => bigSep Finset.univ fun t => A c t) = bigSep Finset.univ fun c => bigSep Finset.univ fun t => A (e t c) t := by
  let E : Dev nD × T ≃ Dev nD × T :=
    ⟨fun p => (e p.2 p.1, p.2), fun p => ((e p.2).symm p.1, p.2), fun p => Prod.ext ((e p.2).symm_apply_apply p.1) rfl,
      fun p => Prod.ext ((e p.2).apply_symm_apply p.1) rfl⟩
  rw [← bigSep_univ_prod fun p : Dev nD × T => A p.1 p.2, bigSep_univ_equiv E, bigSep_univ_prod]
  rfl
theorem toks_dealt : (bigSep Finset.univ fun c => (ownToks c : sProp 𝕄)) = bigSep Finset.univ fun c => payToks c :=
  dealt turn fun c t => dutyTok ER (dutyAt (c, t)).1 (dutyAt (c, t)).2.1 (dutyAt (c, t)).2.2

theorem payToks_eq (c : Dev nD) : (payToks c : sProp 𝕄)
    = iprop((dutyTok ER (barCell (src false c)) 0 false ∗ dutyTok ER (barCell (src true c)) 0 true) ∗ four fun k => toks c k 0) := by
  unfold payToks toks
  rw [sum_sep, bigSep_univ_eq_bigSepL [false, true] (by decide) (by decide), bigSepL_cons_cons, bigSepL_singleton]
  refine congrArg (fun X => iprop((dutyTok ER (barCell (src false c)) 0 false ∗ dutyTok ER (barCell (src true c)) 0 true) ∗ X))
    (Eq.trans (bigSep_congr fun x _ => ?_)
      (sides_eq fun k h s => (dutyTok ER (if s then recvCell (dst k.1 c) k.1 h k.2.val else sendCell c k.1 h k.2.val) 0 false : sProp 𝕄)))
  obtain ⟨k, h, s⟩ := x
  cases s <;> rfl

/-! ## The credit -/

/-- A tile's credit for each hop, and a barrier cell's two units. -/
def credits (c : Dev nD) : sProp 𝕄 :=
  iprop(cred (tallyAt (barCell c) () 2) ∗ four fun k => bigSep (Finset.Ico 0 7) fun h => cred (tallyAt (recvCell c k.1 h k.2.val) () N))

theorem bar_ne {c c' : Dev nD} (h : c ≠ c') : barCell c ≠ barCell c' := fun he => h (congrArg (fun g : GSem nD τ sig => g.1.1) he)
theorem recv_inj {c c' : Dev nD} {k k' : Chain} {h h' : ℕ} (hh : h < 7) (hh' : h' < 7)
    (he : recvCell c k.1 h k.2.val = recvCell c' k'.1 h' k'.2.val) : c = c' ∧ k = k' ∧ h = h' := by
  have hk := kcell_inj (a₁ := (c, .inr (k, ⟨h, hh⟩, true))) (a₂ := (c', .inr (k', ⟨h', hh'⟩, true))) he
  have hx := Sum.inr.inj (congrArg Prod.snd hk)
  exact ⟨congrArg Prod.fst hk, congrArg Prod.fst hx, congrArg (fun x : Hop => x.2.1.val) hx⟩

theorem owed_at_bar (c d : Dev nD) (v : Chain → ℕ) : owed d v (barCell c) () = 0 := by
  by_contra hn
  obtain ⟨k, i, -, -, he⟩ := owed_pos (Nat.pos_of_ne_zero hn)
  exact absurd (congrArg Prod.snd he) (by intro h; cases h)
theorem owed_at_recv (c d : Dev nD) (k : Chain) (h : ℕ) (hh : h < 7) :
    owed d (fun _ => 0) (recvCell c k.1 h k.2.val) () = if d = src k.1 c then N else 0 := by
  unfold owed
  rw [Finset.sum_apply, Finsupp.finset_sum_apply, Finset.sum_eq_single k]
  · rw [Finset.sum_apply, Finsupp.finset_sum_apply, Finset.sum_eq_single h]
    · rw [tallyAt_apply]
      by_cases hd : d = src k.1 c
      · rw [hd, dst_src, if_pos ⟨rfl, rfl⟩, if_pos rfl]
      · rw [if_neg hd, if_neg fun he => hd (by rw [(recv_inj hh hh he.1).1, src_dst])]
    · intro i hi hne
      rw [tallyAt_apply, if_neg fun he => hne (recv_inj hh (Finset.mem_Ico.mp hi).2 he.1).2.2.symm]
    · exact fun hn => absurd (Finset.mem_Ico.mpr ⟨Nat.zero_le _, hh⟩) hn
  · intro k' _ hne
    rw [Finset.sum_apply, Finsupp.finset_sum_apply]
    refine Finset.sum_eq_zero fun i hi => ?_
    rw [tallyAt_apply, if_neg fun he => hne (recv_inj hh (Finset.mem_Ico.mp hi).2 he.1).2.1.symm]
  · exact fun hn => absurd (Finset.mem_univ _) hn

theorem O₀_at (d : Dev nD) (g : GSem nD τ sig) : O₀ d g () = owed d (fun _ => 0) g () + (if g = barCell (src true d) then 1 else 0)
    + (if g = barCell (src false d) then 1 else 0) := by
  unfold O₀ O₁
  rw [Pi.add_apply, Finsupp.add_apply, Pi.add_apply, Finsupp.add_apply, tallyAt_apply, tallyAt_apply]
  simp only [and_true]

/-- The devices that owe a barrier cell a unit are two. -/
theorem total_bar (c : Dev nD) : ∑ d : Dev nD, O₀ d (barCell c) () = 2 := by
  have h (e : Bool) (d : Dev nD) : (if barCell c = barCell (src e d) then 1 else 0) = if d = dst e c then (1 : ℕ) else 0 := by
    by_cases hd : d = dst e c
    · rw [if_pos hd, hd, src_dst, if_pos rfl]
    · rw [if_neg hd, if_neg (bar_ne fun he => hd (by rw [he, dst_src]))]
  have hone (e : Bool) : ∑ d : Dev nD, (if d = dst e c then (1 : ℕ) else 0) = 1 := by
    rw [Finset.sum_ite_eq' Finset.univ (dst e c) fun _ => 1, if_pos (Finset.mem_univ _)]
  simp only [O₀_at, owed_at_bar, h, Nat.zero_add]
  rw [Finset.sum_add_distrib, hone true, hone false]
theorem total_recv (c : Dev nD) (k : Chain) (h : ℕ) (hh : h < 7) : ∑ d : Dev nD, O₀ d (recvCell c k.1 h k.2.val) () = N := by
  have hne (d : Dev nD) : recvCell c k.1 h k.2.val ≠ barCell d := fun he => absurd (congrArg Prod.snd he) (by intro h'; cases h')
  simp only [O₀_at, owed_at_recv c _ k h hh, if_neg (hne _), Nat.add_zero]
  rw [Finset.sum_ite_eq' Finset.univ (src k.1 c) fun _ => N, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem creds (c : Dev nD) : (Pipeline.launchCred O₀ c : sProp 𝕄) ⊢ credits c := by
  unfold Pipeline.launchCred credits
  rw [← hops_eq fun k h => (cred (tallyAt (recvCell c k.1 h k.2.val) () N) : sProp 𝕄)]
  let e : Unit ⊕ (Chain × Fin 7) ↪ SemLoc sig :=
    ⟨fun y => csem (y.map id fun x => (x.1, x.2, true)), by
      rintro (⟨⟩ | ⟨k, h⟩) (⟨⟩ | ⟨k', h'⟩) he
      · rfl
      · exact absurd (csem_inj he) (by intro h; cases h)
      · exact absurd (csem_inj he) (by intro h; cases h)
      · have hx := Sum.inr.inj (csem_inj he)
        have hk : k = k' := congrArg Prod.fst hx
        have hh : h = h' := congrArg (fun x : Hop => x.2.1) hx
        rw [hk, hh]⟩
  have hsub : (bigSep Finset.univ fun sm : SemLoc sig => cred (tallyOn ((c : Thread nD τ), sm) (launchCredit (Pipeline.owing O₀) 0 ((c : Thread nD τ), sm))))
      ⊢ (bigSep (Finset.univ.map e) fun sm : SemLoc sig => cred (tallyOn ((c : Thread nD τ), sm) (launchCredit (Pipeline.owing O₀) 0 ((c : Thread nD τ), sm))) : sProp 𝕄) :=
    bigSep_subset (Finset.subset_univ _)
  refine hsub.trans ?_
  rw [bigSep_map, sum_sep, bigSep_univ_eq_bigSepL [()] (by decide) (by decide), bigSepL_singleton]
  refine Entails.of_eq ?_
  congr 1
  · exact congrArg cred (launch_at (barCell c) 2 (total_bar c))
  · exact bigSep_congr fun x _ => congrArg cred (launch_at (recvCell c x.1.1 x.2.val x.1.2.val) N (total_recv c x.1 x.2.val x.2.isLt))

/-! ## Starting and closing -/

/-- A device's positions, every cell at round `r`. -/
def posAt (c : Dev nD) (r : ℕ) : sProp 𝕄 := bigSep Finset.univ fun y : Key => atPos ER (kcell (c, y)) r ∅ 0
theorem posAt_eq (c : Dev nD) (r : ℕ) : (posAt c r : sProp 𝕄) = iprop(atPos ER (barCell c) r ∅ 0
    ∗ four fun k => bigSep (Finset.Ico 0 7) fun h => iprop(atPos ER (sendCell c k.1 h k.2.val) r ∅ 0 ∗ atPos ER (recvCell c k.1 h k.2.val) r ∅ 0)) :=
  keys_eq fun sm => atPos ER ((c : Thread nD τ), sm) r ∅ 0

/-- What is dealt, and the tiles, are what the chains and the barrier start from. -/
theorem start_fresh (c : Dev nD) :
    iprop(payToks c ∗ posAt c 0 ∗ credits c ∗ four fun k => bigSep (Finset.range 8) fun h => tileAny (F := F) c k.1 h k.2.val)
      ⊢ (iprop((four fun k => fresh c k) ∗ atBarrier c) : sProp 𝕄) := by
  rw [payToks_eq, posAt_eq]
  unfold credits atBarrier fresh landing recvs
  simp only [bigSep_range_first, bigSep_sep', four_sep]
  iintro ⟨⟨⟨Ht1, Ht2⟩, Htk⟩, ⟨Hb, Hs, Hr⟩, ⟨Hc, Hcr⟩, H0, Hl⟩
  isplitr [Ht1 Ht2 Hc Hb]
  · isplitl [H0]; · iexact H0
    isplitl [Hl]; · iexact Hl
    isplitl [Htk]; · iexact Htk
    isplitl [Hs]; · iexact Hs
    isplitl [Hr]; · iexact Hr
    iexact Hcr
  isplitl [Ht1]; · iexact Ht1
  isplitl [Ht2]; · iexact Ht2
  isplitl [Hc]; · iexact Hc
  iexact Hb

/-- At the end every cell is past its round and every tile is back. -/
theorem past_end (c : Dev nD) :
    iprop((four fun k => iprop(tile c k.1 7 k.2.val (tileVal m ρ k.1 k.2.val 7 c))) ∗ (four fun k => past c k 7) ∗ atPos ER (barCell c) 1 ∅ 0)
      ⊢ (iprop(posAt c 1 ∗ four fun k => bigSep (Finset.range 8) fun h => tileAny (F := F) c k.1 h k.2.val) : sProp 𝕄) := by
  rw [posAt_eq]
  unfold past
  simp only [bigSep_range_succ 7, bigSep_sep', four_sep, ← Finset.range_eq_Ico]
  iintro ⟨Ht, ⟨Hs, Hr, Hb⟩, Hat⟩
  isplitl [Hs Hr Hat]
  · isplitl [Hat]; · iexact Hat
    isplitl [Hs]; · iexact Hs
    iexact Hr
  isplitl [Ht]
  · iapply (show (four fun k => iprop(tile c k.1 7 k.2.val (tileVal m ρ k.1 k.2.val 7 c))) ⊢ (four fun k => tileAny (F := F) c k.1 7 k.2.val : sProp 𝕄) from
      four_mono fun k => show _ ⊢ tileAny (F := F) c k.1 7 k.2.val from by unfold tileAny; iintro H; iexists _; iexact H)
    iexact Ht
  iexact Hb

theorem unscoped_eq (c : Dev nD) : (unscopedSems0 c : sProp 𝕄) = semVal (barCell c) 0 := by
  unfold unscopedSems0; rw [bigSep_eq_bigSepL_of_eq [SemLoc.reg barS] (by decide) (by decide)]; rfl
/-- The counters of a device's cells are its unscoped semaphore's and its own ones'. -/
theorem counters_eq (c : Dev nD) : (bigSep Finset.univ fun y : Key => (semVal (kcell (c, y)) 0 : sProp 𝕄))
    = iprop(unscopedSems0 c ∗ Pipeline.ownSems0 osem c) := by
  rw [unscoped_eq, sum_sep, bigSep_univ_eq_bigSepL [()] (by decide) (by decide), bigSepL_singleton]
  rfl

theorem known_own (K : Dev nD × Key → ℕ) (c : Dev nD) :
    known m ρ K ⊢ bigSep Finset.univ fun y : Key => cellInv ER (rd m ρ) (K (c, y)) (kcell (c, y)) := by
  have h : known m ρ K ⊢ bigSep Finset.univ fun y : Key => known m ρ K := BI.bigSep_of_persistent Finset.univ (known m ρ K)
  refine h.trans (bigSep_mono fun y _ => ?_)
  show known m ρ K ⊢ cellInv ER (rd m ρ) (K (c, y)) (kcell (c, y))
  iintro H
  ihave H' := (known_cell m ρ K (c, y)) $$ H
  unfold cellAt
  icases H' with ⟨HI, -⟩
  iexact HI

/-- Every cell past its round closes: its counter is zero. -/
theorem closed (K : Dev nD × Key → ℕ) (c : Dev nD) :
    iprop(known m ρ K ∗ posAt c 1) ⊢ |={Set.univ}=> iprop(unscopedSems0 c ∗ Pipeline.ownSems0 osem c) := by
  rw [← counters_eq]
  unfold posAt
  iintro ⟨HK, Hat⟩
  ihave HI := (known_own m ρ K c) $$ HK
  iapply (Rounds.cells_close ER (rd m ρ) Finset.univ (fun y : Key => kcell (c, y)) (fun y => K (c, y)) (fun _ _ => Set.mem_univ _) (fun _ _ h => h)
    (fun _ => 1) (fun y _ r hr => duties_later m ρ (kcell (c, y)) r hr))
  rw [bigSep_sep']
  isplitl [HI]; · iexact HI
  iexact Hat

end Cert.KernelIdeal.Ring

end
-- ==== Proof.Ideal.Run.lean ====
/-
  The run: the kernel launched on every device.

  From any memory with every counter zero, every run ends; each device's result is its four finished column blocks, its
  operands hold what they held, and every counter is zero.
-/
module

public import proofs.«01_k».proof.Proof.Ideal.Deal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's one point -/

/-- What a device starts the kernel from, beside its buffers. -/
def start (c : Dev nD) : sProp 𝕄 := iprop(∃ K, known m ρ K ∗ payToks c ∗ posAt c 0 ∗ credits c)
/-- Before the point; after it. -/
def Φ₀ (c : Dev nD) : sProp 𝕄 := iprop(start m ρ c ∗ scratch c)
def Φ₁ (c : Dev nD) : sProp 𝕄 := iprop(scratch c ∗ unscopedSems0 c ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer held at a value. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem owns_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

set_option maxRecDepth 4000 in
def pre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def post (c : Dev nD) : sProp 𝕄 :=
  iprop(Φ₁ c ∗ (dats m ρ 0 c).owesAt () (t0_0 : Fin cfg0.N).succ
    ∗ stg c cc0_stg0_0 (xstg m ρ c) ∗ stg c cc0_stg1_0 (wstg m ρ c) ∗ stg c cc0_stg2_0 (outAt m ρ c))

theorem before_x (c : Dev nD) (d) : (dats m ρ 0 c).before (0 : Fin 3) t0_0 d = xstg m ρ c := by
  unfold Dat.before; rw [if_pos (show (cfg0.win (0 : Fin 3)).fetch t0_0 = true from rfl)]; rfl
theorem before_w (c : Dev nD) (d) : (dats m ρ 0 c).before (1 : Fin 3) t0_0 d = wstg m ρ c := by
  unfold Dat.before; rw [if_pos (show (cfg0.win (1 : Fin 3)).fetch t0_0 = true from rfl)]; rfl

/-- What the body ends with closes to what the point leaves. -/
theorem after_post (K : Dev nD × Key → ℕ) (c : Dev nD) :
    iprop(known m ρ K ∗ after m ρ c) ⊢ |={Set.univ}=> post m ρ c := by
  unfold after post operands xHeld wHeld
  iintro ⟨#HK, ⟨Hx, Hw⟩, Hp, Ho, Ht, Hpast, Hat, HO⟩
  ihave He := (past_end m ρ c) $$ [Ht Hpast Hat]
  · isplitl [Ht]; · iexact Ht
    isplitl [Hpast]; · iexact Hpast
    iexact Hat
  icases He with ⟨Hat, Htl⟩
  imod (closed m ρ K c) $$ [Hat] with Hsem
  · isplitr; · iexact HK
    iexact Hat
  imodintro
  unfold Φ₁ Dat.owesAt Pipeline.owesWithin
  rw [show (dats m ρ 0 c).owed (t0_0 : Fin cfg0.N).succ = 0 from rfl, scratch_eq]
  unfold owing
  isplitl [Htl Hp Hsem]
  · isplitl [Htl Hp]
    · isplitl [Htl]; · iexact Htl
      iexact Hp
    iexact Hsem
  isplitl [HO]
  · icases HO with ⟨%W, HO⟩
    iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  ihave Ho' := (oslots_join m ρ c) $$ Ho
  rw [← owns_stg]
  iexact Ho'

set_option maxRecDepth 4000 in
theorem point_runs (c : Dev nD) : pre m ρ c ⊢ Runs c (bodyProg (F := F)) fun _ => post m ρ c := by
  unfold pre Φ₀ start Dat.owesAt Pipeline.owesWithin
  simp only [before_x, before_w]
  rw [show (dats m ρ 0 c).owed (t0_0 : Fin cfg0.N).castSucc = O₀ c from rfl, scratch_eq]
  iintro ⟨⟨⟨%K, #HK, Htk, Hat, Hcr⟩, Htl, Hp⟩, ⟨%W, %hW, HO⟩, ⟨%d0, %g0, %hg0, Hx⟩, ⟨%d1, %g1, %hg1, Hw⟩, ⟨%d2, %g2, %hg2, Ho⟩⟩
  subst hg0 hg1 hg2
  ihave Hf := (start_fresh c) $$ [Htk Hat Hcr Htl]
  · isplitl [Htk]; · iexact Htk
    isplitl [Hat]; · iexact Hat
    isplitl [Hcr]; · iexact Hcr
    iexact Htl
  icases Hf with ⟨Hf, Hb⟩
  iapply (wp_fupd frame (wpE (defs₀ (F := F)) 𝒱₀ (c : Thread nD τ) none) Set.univ bodyProg fun _ => post m ρ c)
  iapply (body_runs m ρ K c) $$ [-]
  rotate_left
  · iintro Ha
    iapply (after_post m ρ K c)
    isplitr; · iexact HK
    iexact Ha
  isplitr; · iexact HK
  unfold before operands xHeld wHeld owing
  isplitl [Hx Hw]
  · isplitl [Hx]; · iexact Hx
    iexact Hw
  isplitl [Hp]; · iexact Hp
  isplitl [Ho]
  · rw [← oslots_eq]
    iapply (Entails.of_eq (whole_any (F := F) c cc0_stg2_0))
    iexists _; iexact Ho
  isplitl [Hf]; · iexact Hf
  isplitl [Hb]; · iexact Hb
  iexists W; iexact HO

theorem call_eq : defs₀ (F := F) Proc.tc 0 (t0_0, cfg0.slots t0_0) = bodyAt0 t0_0 := by
  unfold defs₀
  rfl

set_option maxRecDepth 30000 in
theorem body_obligation (c : Dev nD) : BodyObligation (dats (F := F) m ρ 0 c) (defs₀ (F := F)) 𝒱₀ () Set.univ := fun t => by
  rw [show t = t0_0 from fin_N0 t, bigSep_W0, bigSep_W0]
  simp only [owns_stg]
  have h := point_runs m ρ c
  rw [← body_eq, ← call_eq] at h
  exact h

/-! ## The launch -/

theorem share_eq (c : Dev nD) (w : Fin cfg0.W) : (dats m ρ 0 c).share w = fullShare := by unfold Dat.share; split <;> rfl

def ringCells : Finset (GSem nD τ sig) := Finset.univ.map ⟨kcell, kcell_inj⟩
def ringToks : Finset (GSem nD τ sig × ℕ × Bool) := Finset.univ.map ⟨dutyAt, dutyAt_inj⟩
def u₀ : UU := (initOf (Pipeline.cells cfgs cellOf_inj) (Pipeline.launchToks cfgs cellOf_inj), initOf ringCells ringToks)

/-- What a device is dealt of the cells; what all devices together make of it. -/
def G (c : Dev nD) : sProp 𝕄 :=
  iprop((bigSep Finset.univ fun y : Key => roundState ER (rd m ρ) (kcell (c, y)) 0)
    ∗ (posAt c 0 ∗ bigSep Finset.univ fun y : Key => reached ER (kcell (c, y)) 0) ∗ ownToks c)
def allCells (K : Dev nD × Key → ℕ) : sProp 𝕄 := bigSep Finset.univ fun ck : Dev nD × Key => cellAt m ρ (K ck) (kcell ck)
instance allCells_persistent (K : Dev nD × Key → ℕ) : BI.Persistent (allCells m ρ K) := by unfold allCells; infer_instance
def G' (c : Dev nD) : sProp 𝕄 := iprop(∃ K, allCells m ρ K ∗ payToks c ∗ posAt c 0)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun y : Key => Φ (kcell (c, y)) := by
    unfold ringCells; rw [bigSep_map]; exact bigSep_univ_prod _
  have hT : bigSep ringToks (fun x => (dutyTok ER x.1 x.2.1 x.2.2 : sProp 𝕄)) = bigSep Finset.univ fun c : Dev nD => ownToks c := by
    unfold ringToks; rw [bigSep_map]; exact bigSep_univ_prod _
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAt
  simp only [bigSep_sep']
  isplitl [Hst']; · iexact Hst'
  isplitl [Hat' Hr']
  · isplitl [Hat'] <;> iassumption
  iexact Htok'

/-- A device's cells get their invariants. -/
theorem cells_alloc (c : Dev nD) :
    iprop(Pipeline.ownSems0 osem c ∗ unscopedSems0 c ∗ G m ρ c)
      ⊢ |={Set.univ}=> iprop((bigSep Finset.univ fun y : Key => iprop(∃ κ : ℕ, cellAt m ρ κ (kcell (c, y)))) ∗ ownToks c ∗ posAt c 0) := by
  unfold G cellAt
  iintro ⟨Hos, Hus, Hst, ⟨Hat, Hr⟩, Htok⟩
  ihave Hv := (Entails.of_eq (counters_eq (F := F) c).symm) $$ [Hos Hus]
  · isplitl [Hus] <;> iassumption
  imod (show iprop((bigSep Finset.univ fun y : Key => semVal (kcell (c, y)) 0) ∗ bigSep Finset.univ fun y : Key => roundState ER (rd m ρ) (kcell (c, y)) 0)
      ⊢ (|={Set.univ}=> bigSep Finset.univ fun y : Key => iprop(∃ κ : ℕ, cellInv ER (rd m ρ) κ (kcell (c, y))) : sProp 𝕄) from by
        rw [← bigSep_sep']
        exact (bigSep_mono fun y _ => (Rounds.body_intro ER (rd m ρ) (kcell (c, y))).trans inv_alloc).trans (bigSep_fupd _ _)) $$ [Hv Hst] with Hinv
  · isplitl [Hv] <;> iassumption
  imodintro
  isplitl [Hinv Hr]
  · iapply (show iprop((bigSep Finset.univ fun y : Key => iprop(∃ κ : ℕ, cellInv ER (rd m ρ) κ (kcell (c, y)))) ∗ bigSep Finset.univ fun y : Key => reached ER (kcell (c, y)) 0)
        ⊢ (bigSep Finset.univ fun y : Key => iprop(∃ κ : ℕ, cellInv ER (rd m ρ) κ (kcell (c, y)) ∗ reached ER (kcell (c, y)) 0) : sProp 𝕄) from by
      rw [← bigSep_sep']
      refine bigSep_mono fun y _ => ?_
      show iprop((∃ κ : ℕ, cellInv ER (rd m ρ) κ (kcell (c, y))) ∗ reached ER (kcell (c, y)) 0)
        ⊢ (iprop(∃ κ : ℕ, cellInv ER (rd m ρ) κ (kcell (c, y)) ∗ reached ER (kcell (c, y)) 0) : sProp 𝕄)
      iintro ⟨⟨%κ, HI⟩, Hr⟩
      iexists κ
      isplitl [HI]; · iexact HI
      iexact Hr)
    isplitl [Hinv]; · iexact Hinv
    iexact Hr
  isplitl [Htok]; · iexact Htok
  iexact Hat

/-- What every device may use is every device's, beside what each has. -/
theorem shared {R : sProp 𝕄} [BI.Persistent R] (Φ : Dev nD → sProp 𝕄) :
    iprop(R ∗ bigSep Finset.univ Φ) ⊢ bigSep Finset.univ fun c => iprop(R ∗ Φ c) := by
  rw [bigSep_sep']
  iintro ⟨#HR, H⟩
  isplitr
  · iapply (BI.bigSep_of_persistent (Finset.univ : Finset (Dev nD)) R); iexact HR
  iexact H

theorem regroup :
    (bigSep Finset.univ fun c : Dev nD =>
        iprop((bigSep Finset.univ fun y : Key => iprop(∃ κ : ℕ, cellAt m ρ κ (kcell (c, y)))) ∗ ownToks c ∗ posAt c 0) : sProp 𝕄)
      ⊢ bigSep Finset.univ (G' m ρ) := by
  rw [bigSep_sep', bigSep_sep', ← bigSep_univ_prod (fun ck : Dev nD × Key => iprop(∃ κ : ℕ, cellAt m ρ κ (kcell ck))), toks_dealt]
  iintro ⟨HI, Htok, Hat⟩
  ihave HK := (BI.bigSep_exists_pi Finset.univ (fun (ck : Dev nD × Key) (κ : ℕ) => (cellAt m ρ κ (kcell ck) : sProp 𝕄))) $$ HI
  icases HK with ⟨%K, HI⟩
  iapply (show (bigSep Finset.univ fun c : Dev nD => iprop(allCells m ρ K ∗ payToks c ∗ posAt c 0)) ⊢ bigSep Finset.univ (G' m ρ) from
    bigSep_mono fun c _ => show iprop(allCells m ρ K ∗ payToks c ∗ posAt c 0) ⊢ G' m ρ c from by unfold G'; iintro H; iexists K; iexact H)
  iapply (shared (R := allCells m ρ K) fun c => iprop(payToks c ∗ posAt c 0))
  isplitl [HI]; · unfold allCells; iexact HI
  rw [bigSep_sep']
  isplitl [Htok]; · iexact Htok
  iexact Hat

theorem glob : (bigSep Finset.univ fun c => iprop(Pipeline.ownSems0 osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' known
  iintro ⟨-, Hlev, Hcr, -, ⟨%K, HA, Htk, Hat⟩⟩
  ihave Hc := (creds (F := F) c) $$ Hcr
  imodintro
  isplitl
  · iexists K
    isplitl [HA Hlev]
    · isplitl [HA]; · unfold allCells; iexact HA
      iexact Hlev
    isplitl [Htk]; · iexact Htk
    isplitl [Hat]; · iexact Hat
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Each device's arrays at the end. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 30000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held; the result is what the kernel left in its staging buffer. -/
theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

end Cert.KernelIdeal.Ring

end
-- ==== Proof.Value.Tile.lean ====
/-
  A tile's entries over the extended reals.

  A partial product's entry is a sum of 256 products; a tile that a chain carries is the sum of the partial products of
  the devices it has passed; the result's entry is the activation of the finished tile's.
-/
module

public import proofs.«01_k».proof.Proof.Ideal.Sched
public import Idealize.ShloMosaic.Lib.MatmulPlain
public import Idealize.ShloMosaic.Lib.Pipeline.Value

@[expose] public section

noncomputable section

namespace Cert.KernelIdeal.Ring

open Cert.KernelIdeal Cert.KernelIdeal.Gen
open Idealize.ShloMosaic Idealize.ShloMosaic.TcCoe Idealize.ShloMosaic.ValueIdx Idealize.SL.Sem
open scoped BigOperators

/-! ## The values of one step -/

/-- A tile and a partial product as matrices. -/
abbrev flat (t : Vec Ideal S1x1x256x512 .f32) : FVec Ideal S256x512 .f32 := shapeCast S256x512 t shapeCasts_S1x1x256x512_S256x512
abbrev flatP (t : Vec Ideal S1x256x512 .f32) : FVec Ideal S256x512 .f32 := shapeCast S256x512 t shapeCasts_S1x256x512_S256x512

/-- The matrix product's entries are sums of products. -/
theorem dot_entry (x : FVec Ideal S256x256 .f32) (w : FVec Ideal S256x512 .f32) (i : Fin 256) (j : Fin 512) :
    matmul dot_S256x256_S256x512_S256x512_1_0_0_1_n_n none x w (constant S256x512 .f32 0x00000000#32) (ix2 i j)
      = ∑ k : Fin 256, x (ix2 i k) * w (ix2 k j) := by
  refine (Ideal.matmul_plain_apply none x w (constant S256x512 .f32 0x00000000#32) i j).trans ?_
  refine (congrArg (· + _) ?_).trans (zero_add _)
  exact Ideal.ofBits_zero_f32

theorem flat_first (x : Vec Ideal S256x256 .f32) (w : Vec Ideal S256x512 .f32) (i : Fin 256) (j : Fin 512) :
    flat (firstP x w) (ix2 i j) = ∑ k : Fin 256, x (ix2 i k) * w (ix2 k j) := by
  unfold flat firstP k0_pay5 k0_pay3
  dsimp only
  rw [shapeCast_shapeCast, shapeCast_self, shapeCast_self]
  exact dot_entry x w i j

theorem flat_part (x : Vec Ideal S256x256 .f32) (w : Vec Ideal S256x512 .f32) (i : Fin 256) (j : Fin 512) :
    flatP (partP x w) (ix2 i j) = ∑ k : Fin 256, x (ix2 i k) * w (ix2 k j) := by
  unfold flatP partP k0_pay11 k0_pay9
  dsimp only
  rw [shapeCast_shapeCast, shapeCast_self, shapeCast_self]
  exact dot_entry x w i j

theorem flat_add (a : Vec Ideal S1x1x256x512 .f32) (p : Vec Ideal S1x256x512 .f32) (y : S256x512.Idx) :
    flat (addP a p) y = (flat a y + flatP p y : EReal) := by
  unfold flat addP k0_pay15
  dsimp only
  rw [shapeCast_shapeCast]
  rfl

/-- The activation: the tanh form of gelu, with the program's constants. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

theorem outP_entry (a : Vec Ideal S1x1x256x512 .f32) (y : S256x512.Idx) : outP a y = gelu (flat a y) := by
  unfold outP k0_pay2
  rfl

/-! ## The operands' entries -/

variable (m : (ℓ : Loc nD τ sig) → Buf (Elt Ideal) ℓ) (ρ : Dev nD → PrngReg)

/-- A device's part of the left operand and of the right one. -/
abbrev xIn (c : Dev nD) : (⟨2, ![2048, 256]⟩ : Shape).Idx → EReal := m ((c : Thread nD τ).loc main_arg0)
abbrev wIn (c : Dev nD) : (⟨2, ![256, 2048]⟩ : Shape).Idx → EReal := m ((c : Thread nD τ).loc main_arg1)

theorem xstg_eq (c : Dev nD) : xstg m ρ c = xIn m c := by
  funext z
  refine congrArg (xIn m c) (Shape.idx_ext₂ ?_ ?_)
  · exact win0_0.rect_emb_val_of_index_zero (0 : Fin 1) 0 (by decide +kernel) z
  · exact win0_0.rect_emb_val_of_index_zero (0 : Fin 1) 1 (by decide +kernel) z
theorem wstg_eq (c : Dev nD) : wstg m ρ c = wIn m c := by
  funext z
  refine congrArg (wIn m c) (Shape.idx_ext₂ ?_ ?_)
  · exact win0_1.rect_emb_val_of_index_zero (0 : Fin 1) 0 (by decide +kernel) z
  · exact win0_1.rect_emb_val_of_index_zero (0 : Fin 1) 1 (by decide +kernel) z

/-- The block of rows a direction's chains multiply at step `h`. -/
def chunk (d : Bool) (c : Dev nD) (h : ℕ) : Fin 8 := match d with
  | false => ⟨(c.val + 15 - h % 8) % 8, Nat.mod_lt _ (by decide)⟩
  | true => ⟨(c.val + h % 8 + 1) % 8, Nat.mod_lt _ (by decide)⟩

theorem rowOff_eq (d : Bool) (c : Dev nD) (h : ℕ) : rowOff d c (BitVec.ofNat 32 (h % 8)) = ![256 * (chunk d c h).val, 0] := by
  cases d
  · exact k0_off1_eq c ⟨h % 8, Nat.mod_lt _ (by decide)⟩
  · exact k0_off2_eq c ⟨h % 8, Nat.mod_lt _ (by decide)⟩

/-- Row `i` of block `r` of the rows; column `j` of a chain's columns. -/
def row (r : Fin 8) (i : Fin 256) : Fin 2048 := ⟨256 * r.val + i.val, by omega⟩
def column (d : Bool) (b : ℕ) (j : Fin 512) : Fin 2048 := ⟨col d b + j.val, by have := col_inb d b 1; exact Nat.lt_of_lt_of_le (Nat.add_lt_add_left j.isLt _) this⟩

theorem xrows_entry (c : Dev nD) (d : Bool) (h : ℕ) (i k : Fin 256) :
    xrows m ρ c d h (ix2 i k) = xIn m c (ix2 (row (chunk d c h) i) k) := by
  unfold xrows
  rw [xstg_eq]
  refine congrArg (xIn m c) (Shape.idx_ext₂ ?_ ?_)
  · show rowOff d c (BitVec.ofNat 32 (h % 8)) 0 + 1 * i.val = 256 * (chunk d c h).val + i.val
    rw [rowOff_eq, Nat.one_mul]; rfl
  · show rowOff d c (BitVec.ofNat 32 (h % 8)) 1 + 1 * k.val = k.val
    rw [rowOff_eq, Nat.one_mul]; exact Nat.zero_add _
theorem wcols_entry (c : Dev nD) (d : Bool) (b : ℕ) (k : Fin 256) (j : Fin 512) :
    wcols m ρ c d b (ix2 k j) = wIn m c (ix2 k (column d b j)) := by
  unfold wcols
  rw [wstg_eq]
  refine congrArg (wIn m c) (Shape.idx_ext₂ ?_ ?_)
  · show 0 + 1 * k.val = k.val; omega
  · show col d b + 1 * j.val = col d b + j.val; omega

/-! ## What a chain carries -/

/-- A device's own contribution to an entry of the whole product: row `r`, column `j`. -/
def contrib (p : Dev nD) (r j : Fin 2048) : EReal := ∑ k : Fin 256, xIn m p (ix2 r k) * wIn m p (ix2 k j)

/-- The rows a tile is about stay the same from device to device; the device that has it last owns them. -/
theorem chunk_src (d : Bool) (c : Dev nD) (h : ℕ) (hh : h < 7) : chunk d (src d c) h = chunk d c (h + 1) := by
  have hc : c.val < 8 := c.isLt
  cases d
  · refine Fin.ext ?_
    show ((c.val + 7) % 8 + 15 - h % 8) % 8 = (c.val + 15 - (h + 1) % 8) % 8
    omega
  · refine Fin.ext ?_
    show ((c.val + 1) % 8 + h % 8 + 1) % 8 = (c.val + (h + 1) % 8 + 1) % 8
    omega
theorem chunk_last (d : Bool) (c : Dev nD) : (chunk d c 7).val = c.val := by
  have hc : c.val < 8 := c.isLt
  cases d
  · show (c.val + 15 - 7 % 8) % 8 = c.val; omega
  · show (c.val + 7 % 8 + 1) % 8 = c.val; omega

/-- The tile a device has at step `h`: its own contribution and those of the `h` devices before it. -/
theorem flat_tile (d : Bool) (b : ℕ) (i : Fin 256) (j : Fin 512) : ∀ (h : ℕ) (_ : h < 8) (c : Dev nD),
    flat (tileVal m ρ d b h c) (ix2 i j) = ∑ q ∈ Finset.range (h + 1), contrib m ((src d)^[q] c) (row (chunk d c h) i) (column d b j)
  | 0, _, c => by
    refine (flat_first _ _ i j).trans ?_
    rw [Finset.sum_range_one]
    exact Finset.sum_congr rfl fun k _ => by rw [xrows_entry, wcols_entry]; rfl
  | h + 1, hh, c => by
    refine (flat_add _ _ _).trans ?_
    rw [flat_tile d b i j h (by omega) (src d c), flat_part, Finset.sum_range_succ' _ (h + 1), chunk_src d c h (by omega)]
    refine congrArg₂ (· + ·) rfl (Finset.sum_congr rfl fun k _ => ?_)
    rw [xrows_entry, wcols_entry]; rfl

/-- Going back from a device, zero to seven times, meets every device once. -/
theorem back_bijective (d : Bool) (c : Dev nD) : Function.Bijective fun q : Fin 8 => (src d)^[q.val] c := by
  refine (Finite.injective_iff_bijective (α := Fin 8)).mp ?_
  revert d c
  decide

/-- The finished tile on a device: every device's contribution to the rows it owns. -/
theorem flat_last (d : Bool) (b : ℕ) (c : Dev nD) (i : Fin 256) (j : Fin 512) :
    flat (tileVal m ρ d b 7 c) (ix2 i j) = ∑ p : Dev nD, contrib m p (row c i) (column d b j) := by
  rw [flat_tile m ρ d b i j 7 (by decide) c, show chunk d c 7 = c from Fin.ext (chunk_last d c), Finset.sum_range]
  exact (back_bijective d c).sum_comp fun p => contrib m p (row c i) (column d b j)

end Cert.KernelIdeal.Ring

end
-- ==== Proof.Value.Whole.lean ====
/-
  The reference's entries, and the result's: the same.

  The contraction of 2048 positions is the sum, over the eight devices, of the contraction of the 256 positions a device
  holds. So a finished tile's entry is the whole product's, and its activation is the reference's entry.
-/
module

public import proofs.«01_k».proof.Proof.Value.Tile
public import proofs.«01_k».proof.Proof.Ideal.Buffers
public import proofs.«01_k».proof.Proof.Gen.ReferenceIdeal.Run
public import Idealize.ShloMosaic.Lib.StackMember
public import Idealize.ShloMosaic.Lib.Layout

@[expose] public section

noncomputable section

namespace Cert.KernelIdeal.Ring

open Cert.KernelIdeal Cert.KernelIdeal.Gen
open Idealize.ShloMosaic Idealize.ShloMosaic.TcCoe Idealize.ShloMosaic.ValueIdx Idealize.SL.Sem
open scoped BigOperators

/-! ## The reference -/

/-- A whole array. -/
abbrev Whole : Type := FVec Ideal (⟨2, ![2048, 2048]⟩ : Shape) .f32

/-- The product of two whole arrays, and the reference's result. -/
def wholeDot (X W : Whole) : Whole :=
  Host.dotGeneral Cert.ReferenceIdeal.dot_S2048x2048_S2048x2048_S2048x2048_1_0_0_1_n_n none X W
/-- The reference's activation of a whole array. -/
def refGelu (D : Whole) : Whole :=
  open Cert.ReferenceIdeal Cert.ReferenceIdeal.Gen in
  mulf (mulf (broadcastInDim S2048x2048 ![] bcast_S_S2048x2048 (constant S_ .f32 0x3F000000#32)) D)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf D (mulf (broadcastInDim S2048x2048 ![] bcast_S_S2048x2048 (constant S_ .f32 0x3D372713#32)) (mulf (mulf D D) D))))))
def refOut (X W : Whole) : Whole := fun i => gelu (wholeDot X W i)

/-- The reference cubes with the product in another order. -/
theorem cube (k y : EReal) : k * (y * y * y) = k * y * y * y := by rw [mul_assoc k, mul_assoc k]

theorem ref_entry (D : Whole) (i : (⟨2, ![2048, 2048]⟩ : Shape).Idx) : refGelu D i = gelu (D i) := by
  have e : refGelu D i = Ideal.ofBits .f32 0x3F000000#32 * D i * (Ideal.ofBits .f32 0x3F800000#32
    + Ideal.tanh (Ideal.ofBits .f32 0x3F4C422A#32 * (D i + Ideal.ofBits .f32 0x3D372713#32 * (D i * D i * D i)))) := rfl
  rw [e, cube]; rfl

/-- The reference leaves its result and its arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread _ _).loc Cert.ReferenceIdeal.main_v13)
            = refOut (m ((c.tc : Thread _ _).loc Cert.ReferenceIdeal.main_arg0)) (m ((c.tc : Thread _ _).loc Cert.ReferenceIdeal.main_arg1))
          ∧ r.2.mem ((c.tc : Thread _ _).loc Cert.ReferenceIdeal.main_arg0) = m ((c.tc : Thread _ _).loc Cert.ReferenceIdeal.main_arg0)
          ∧ r.2.mem ((c.tc : Thread _ _).loc Cert.ReferenceIdeal.main_arg1) = m ((c.tc : Thread _ _).loc Cert.ReferenceIdeal.main_arg1) :=
  (θ_run _ _ _).mono (fun _ h c => ⟨(h c).1.trans (funext fun i => ref_entry _ i), (h c).2⟩) (Cert.ReferenceIdeal.Value.run m ρ)

theorem dot_whole (X W : Whole) (r j : Fin 2048) : wholeDot X W (ix2 r j) = ∑ k : Fin 2048, X (ix2 r k) * W (ix2 k j) :=
  StackMember.dotGeneral_plain_apply none X W r j

/-! ## The split contraction -/

/-- Position `k` of device `p`'s 256. -/
def pos (p : Fin 8) (k : Fin 256) : Fin 2048 := ⟨p.val * 256 + k.val, by omega⟩

theorem sum_split (f : Fin 2048 → EReal) : ∑ k, f k = ∑ p : Fin 8, ∑ k : Fin 256, f (pos p k) := by
  rw [← Fintype.sum_prod_type', ← (finProdFinEquiv (m := 8) (n := 256)).sum_comp f]
  refine Finset.sum_congr rfl fun x _ => congrArg f (Fin.ext ?_)
  show x.2.val + 256 * x.1.val = x.1.val * 256 + x.2.val
  omega

variable (m : (ℓ : Loc nD τ sig) → Buf (Elt Ideal) ℓ) (ρ : Dev nD → PrngReg)

/-- The devices hold the two whole arrays, the left one cut by columns and the right one by rows. -/
def Holds (X W : Whole) : Prop :=
  ∀ c : Dev nD, xIn m c = Layout.block ⟨2, ![2048, 256]⟩ ⟨2, ![2048, 2048]⟩ 1 8 c X
    ∧ wIn m c = Layout.block ⟨2, ![256, 2048]⟩ ⟨2, ![2048, 2048]⟩ 0 8 c W

variable {m} in
theorem contrib_eq {X W : Whole} (h : Holds m X W) (p : Dev nD) (r j : Fin 2048) :
    contrib m p r j = ∑ k : Fin 256, X (ix2 r (pos p k)) * W (ix2 (pos p k) j) := by
  refine Finset.sum_congr rfl fun k _ => ?_
  rw [(h p).1, (h p).2]
  refine congrArg₂ (· * ·) (congrArg X (Shape.idx_ext₂ rfl rfl)) (congrArg W (Shape.idx_ext₂ rfl rfl))

variable {m} in
/-- A finished tile's entry is the whole product's. -/
theorem flat_whole {X W : Whole} (h : Holds m X W) (d : Bool) (b : ℕ) (c : Dev nD) (i : Fin 256) (j : Fin 512) :
    flat (tileVal m ρ d b 7 c) (ix2 i j) = wholeDot X W (ix2 (row c i) (column d b j)) := by
  rw [flat_last, dot_whole, sum_split]
  exact Finset.sum_congr rfl fun p _ => contrib_eq h p _ _

/-! ## The result -/

variable {m} in
/-- On every device the result is its block of rows of the reference's. -/
theorem out_eq {X W : Whole} (h : Holds m X W) (c : Dev nD) :
    outAt m ρ c = Layout.block ⟨2, ![256, 2048]⟩ ⟨2, ![2048, 2048]⟩ 0 8 c (refOut X W) := by
  funext y
  obtain ⟨k, -, hk⟩ := Finset.mem_biUnion.mp (col_cover.symm ▸ Finset.mem_univ y)
  rw [← (colF k).map_emb_univ, Finset.mem_map] at hk
  obtain ⟨z, -, rfl⟩ := hk
  obtain ⟨i, j, rfl⟩ : ∃ i j, z = ix2 i j := ⟨_, _, eq_ix2 z⟩
  rw [outAt_col]
  refine (outP_entry _ _).trans ((congrArg gelu (flat_whole ρ h k.1 k.2.val c i j)).trans ?_)
  refine congrArg (refOut X W) (Shape.idx_ext₂ ?_ ?_)
  · show 256 * c.val + i.val = c.val * 256 + (0 + 1 * i.val); omega
  · show col k.1 k.2.val + j.val = col k.1 k.2.val + 1 * j.val; omega

end Cert.KernelIdeal.Ring

end
-- ==== Proof.Value.Final.lean ====
/-
  The result array ends with what the kernel left in its staging buffer: the one point writes the whole array back.
-/
module

public import proofs.«01_k».proof.Proof.Ideal.Run
public import Idealize.ShloMosaic.Lib.Pipeline.ValueKit

@[expose] public section

noncomputable section

namespace Cert.KernelIdeal.Ring

open Cert.KernelIdeal Cert.KernelIdeal.Gen
open Idealize.ShloMosaic Idealize.ShloMosaic.TcCoe

variable {F : FTy → Type} [FloatOps F] (m : (ℓ : Loc nD τ sig) → Buf (Elt F) ℓ) (ρ : Dev nD → PrngReg)

theorem final_out (c : Dev nD) : finalA m ρ c (2 : Fin 3) = outAt m ρ c := by
  unfold finalA
  refine (dats (F := F) m ρ 0 c).arrAt_eq_of_after_last (2 : Fin 3) t0_0 (by decide +kernel) _ fun j => ?_
  rfl

end Cert.KernelIdeal.Ring

end
-- ==== Proof.lean ====
/-
  The certificate's claims, each from its module.
-/
module

public import proofs.«01_k».proof.Defs
public import proofs.«01_k».proof.Proof.Base.Run
public import proofs.«01_k».proof.Proof.Ideal.Run
public import proofs.«01_k».proof.Proof.Value.Whole
public import proofs.«01_k».proof.Proof.Value.Final
public import proofs.«01_k».proof.Proof.Gen.ReferenceIdeal.Run

@[expose] public section

noncomputable section

namespace Cert.Proof

open Idealize.ShloMosaic Idealize.SL.Sem

/-- The kernel runs, its operands end unchanged and every counter ends at zero: at the bits; -/
theorem kernel_frame : Cert.quiescent_Kernel := fun m g _ =>
  (θ_run _ _ _).mono (fun _ h => ⟨fun c => ⟨(h.1 c (0 : Fin 3)).trans (Cert.Kernel.Ring.final_x m g c),
    (h.1 c (1 : Fin 3)).trans (Cert.Kernel.Ring.final_w m g c)⟩, h.2⟩) (Cert.Kernel.Ring.run_main m g)
/-- at the extended reals. -/
theorem ideal_frame : Cert.quiescent_KernelIdeal := fun m g _ =>
  (θ_run _ _ _).mono (fun _ h => ⟨fun c => ⟨(h.1 c (0 : Fin 3)).trans (Cert.KernelIdeal.Ring.final_x m g c),
    (h.1 c (1 : Fin 3)).trans (Cert.KernelIdeal.Ring.final_w m g c)⟩, h.2⟩) (Cert.KernelIdeal.Ring.run_main m g)

/-- The reference has no counter. -/
theorem no_counter (g : GSem Cert.ReferenceIdeal.nD Cert.ReferenceIdeal.τ Cert.ReferenceIdeal.sig) : False := by
  rcases g with ⟨_, s | s⟩ <;> exact s.elim0
theorem reference_frame : Cert.quiescent_ReferenceIdeal := fun m g _ =>
  (θ_run _ _ _).mono (fun _ h => ⟨fun c => (h c).2, funext fun g => (no_counter g).elim⟩) (Cert.ReferenceIdeal.Value.run m g)

/-- Over the extended reals every device ends with its block of rows of the reference's result. -/
theorem same_function : Cert.algebraic_KernelIdeal_ReferenceIdeal := fun m g m' g' _ h =>
  ⟨_, (θ_run _ _ _).mono (fun _ hr c => ⟨(hr.1 c (2 : Fin 3)).trans ((Cert.KernelIdeal.Ring.final_out m g c).trans (Cert.KernelIdeal.Ring.out_eq g h c)),
      (hr.1 c (0 : Fin 3)).trans (Cert.KernelIdeal.Ring.final_x m g c), (hr.1 c (1 : Fin 3)).trans (Cert.KernelIdeal.Ring.final_w m g c)⟩)
      (Cert.KernelIdeal.Ring.run_main m g),
    (θ_run _ _ _).mono (fun _ hr => hr 0) (Cert.KernelIdeal.Ring.reference_run m' g')⟩

theorem claim : Cert.Claim :=
  ⟨Cert.Kernel.Gen.facts, Cert.KernelIdeal.Gen.facts, Cert.ReferenceIdeal.Gen.facts,
    kernel_frame, ideal_frame, reference_frame, trivial, same_function⟩

end Cert.Proof

end
